-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x512x50x38 : Shape := ⟨4, ![1, 512, 50, 38]⟩
abbrev S512x512x3x3 : Shape := ⟨4, ![512, 512, 3, 3]⟩
abbrev S512 : Shape := ⟨1, ![512]⟩
abbrev S36x512x1x1 : Shape := ⟨4, ![36, 512, 1, 1]⟩
abbrev S36 : Shape := ⟨1, ![36]⟩
abbrev S18x512x1x1 : Shape := ⟨4, ![18, 512, 1, 1]⟩
abbrev S18 : Shape := ⟨1, ![18]⟩
abbrev S_ : Shape := ⟨0, ![]⟩

class Facts : Prop where
  bcast_S_S1x512x50x38 : S_.BroadcastsInDim S1x512x50x38 (![] : Fin 0 → Fin S1x512x50x38.rank)
  reducesTo_S1x512x50x38_S_d0_1_2_3 : S1x512x50x38.ReducesTo [0, 1, 2, 3] S_
  h_S_ : 0 < S_.numel
  bcast_S_S512x512x3x3 : S_.BroadcastsInDim S512x512x3x3 (![] : Fin 0 → Fin S512x512x3x3.rank)
  reducesTo_S512x512x3x3_S_d0_1_2_3 : S512x512x3x3.ReducesTo [0, 1, 2, 3] S_
  bcast_S_S36x512x1x1 : S_.BroadcastsInDim S36x512x1x1 (![] : Fin 0 → Fin S36x512x1x1.rank)
  reducesTo_S36x512x1x1_S_d0_1_2_3 : S36x512x1x1.ReducesTo [0, 1, 2, 3] S_
  bcast_S_S18x512x1x1 : S_.BroadcastsInDim S18x512x1x1 (![] : Fin 0 → Fin S18x512x1x1.rank)
  reducesTo_S18x512x1x1_S_d0_1_2_3 : S18x512x1x1.ReducesTo [0, 1, 2, 3] S_

variable [Facts]

def fn_part1 {F : FTy → Type} [FloatOps F] (main_v13 : IVec S_ 1) (main_v16 : IVec S18x512x1x1 1) : IVec S_ 1 :=
  let main_c_5 : IVec S_ 1 := constantI S_ 1 1#1
  let main_v17 : IVec S_ 1 := (fun x v => Host.reduce IntOp.andi x v reducesTo_S18x512x1x1_S_d0_1_2_3 h_S_) main_v16 main_c_5
  let main_v18 : IVec S_ 1 := andi main_v13 main_v17
  main_v18

def fn {F : FTy → Type} [FloatOps F] (main_arg0 : FVec F S1x512x50x38 .f32) (main_arg1 : FVec F S512x512x3x3 .f32) (main_arg2 : FVec F S512 .f32) (main_arg3 : FVec F S36x512x1x1 .f32) (main_arg4 : FVec F S36 .f32) (main_arg5 : FVec F S18x512x1x1 .f32) (main_arg6 : FVec F S18 .f32) : IVec S_ 1 :=
  let main_v0 : FVec F S1x512x50x38 .f32 := Host.absf main_arg0
  let main_cst : FVec F S_ .f32 := constant S_ .f32 0x7F800000#32
  let main_v1 : FVec F S1x512x50x38 .f32 := broadcastInDim S1x512x50x38 ![] bcast_S_S1x512x50x38 main_cst
  let main_v2 : IVec S1x512x50x38 1 := cmpf .olt main_v0 main_v1
  let main_c : IVec S_ 1 := constantI S_ 1 1#1
  let main_v3 : IVec S_ 1 := (fun x v => Host.reduce IntOp.andi x v reducesTo_S1x512x50x38_S_d0_1_2_3 h_S_) main_v2 main_c
  let main_v4 : FVec F S512x512x3x3 .f32 := Host.absf main_arg1
  let main_cst_0 : FVec F S_ .f32 := constant S_ .f32 0x7F800000#32
  let main_v5 : FVec F S512x512x3x3 .f32 := broadcastInDim S512x512x3x3 ![] bcast_S_S512x512x3x3 main_cst_0
  let main_v6 : IVec S512x512x3x3 1 := cmpf .olt main_v4 main_v5
  let main_c_1 : IVec S_ 1 := constantI S_ 1 1#1
  let main_v7 : IVec S_ 1 := (fun x v => Host.reduce IntOp.andi x v reducesTo_S512x512x3x3_S_d0_1_2_3 h_S_) main_v6 main_c_1
  let main_v8 : IVec S_ 1 := andi main_v3 main_v7
  let main_v9 : FVec F S36x512x1x1 .f32 := Host.absf main_arg3
  let main_cst_2 : FVec F S_ .f32 := constant S_ .f32 0x7F800000#32
  let main_v10 : FVec F S36x512x1x1 .f32 := broadcastInDim S36x512x1x1 ![] bcast_S_S36x512x1x1 main_cst_2
  let main_v11 : IVec S36x512x1x1 1 := cmpf .olt main_v9 main_v10
  let main_c_3 : IVec S_ 1 := constantI S_ 1 1#1
  let main_v12 : IVec S_ 1 := (fun x v => Host.reduce IntOp.andi x v reducesTo_S36x512x1x1_S_d0_1_2_3 h_S_) main_v11 main_c_3
  let main_v13 : IVec S_ 1 := andi main_v8 main_v12
  let main_v14 : FVec F S18x512x1x1 .f32 := Host.absf main_arg5
  let main_cst_4 : FVec F S_ .f32 := constant S_ .f32 0x7F800000#32
  let main_v15 : FVec F S18x512x1x1 .f32 := broadcastInDim S18x512x1x1 ![] bcast_S_S18x512x1x1 main_cst_4
  let main_v16 : IVec S18x512x1x1 1 := cmpf .olt main_v14 main_v15
  fn_part1 (F := F) main_v13 main_v16
-- ==== Kernel.lean ====
abbrev S1x512x50x38 : Shape := ⟨4, ![1, 512, 50, 38]⟩
abbrev S512x512x3x3 : Shape := ⟨4, ![512, 512, 3, 3]⟩
abbrev S512 : Shape := ⟨1, ![512]⟩
abbrev S36x512x1x1 : Shape := ⟨4, ![36, 512, 1, 1]⟩
abbrev S36 : Shape := ⟨1, ![36]⟩
abbrev S18x512x1x1 : Shape := ⟨4, ![18, 512, 1, 1]⟩
abbrev S18 : Shape := ⟨1, ![18]⟩
abbrev S50x38x1x512 : Shape := ⟨4, ![50, 38, 1, 512]⟩
abbrev S7600x128 : Shape := ⟨2, ![7600, 128]⟩
abbrev S3x3x512x512 : Shape := ⟨4, ![3, 3, 512, 512]⟩
abbrev S9x512x512 : Shape := ⟨3, ![9, 512, 512]⟩
abbrev S36x1x1x512 : Shape := ⟨4, ![36, 1, 1, 512]⟩
abbrev S36x512 : Shape := ⟨2, ![36, 512]⟩
abbrev S18x1x1x512 : Shape := ⟨4, ![18, 1, 1, 512]⟩
abbrev S18x512 : Shape := ⟨2, ![18, 512]⟩
abbrev S1x512 : Shape := ⟨2, ![1, 512]⟩
abbrev S1x36 : Shape := ⟨2, ![1, 36]⟩
abbrev S1x18 : Shape := ⟨2, ![1, 18]⟩
abbrev S1900x36 : Shape := ⟨2, ![1900, 36]⟩
abbrev S1900x18 : Shape := ⟨2, ![1900, 18]⟩
abbrev S2048x512 : Shape := ⟨2, ![2048, 512]⟩
abbrev S64x512 : Shape := ⟨2, ![64, 512]⟩
abbrev S84x512 : Shape := ⟨2, ![84, 512]⟩
abbrev S1900x128 : Shape := ⟨2, ![1900, 128]⟩
abbrev S54x512 : Shape := ⟨2, ![54, 512]⟩
abbrev S1x54 : Shape := ⟨2, ![1, 54]⟩
abbrev S54 : Shape := ⟨1, ![54]⟩
abbrev S54x1 : Shape := ⟨2, ![54, 1]⟩
abbrev S1920x1 : Shape := ⟨2, ![1920, 1]⟩
abbrev S1920x54 : Shape := ⟨2, ![1920, 54]⟩
abbrev S1x512x512 : Shape := ⟨3, ![1, 512, 512]⟩
abbrev S512x512 : Shape := ⟨2, ![512, 512]⟩
abbrev S512x54 : Shape := ⟨2, ![512, 54]⟩
abbrev S2048x54 : Shape := ⟨2, ![2048, 54]⟩
abbrev S50x38x36 : Shape := ⟨3, ![50, 38, 36]⟩
abbrev S36x50x38 : Shape := ⟨3, ![36, 50, 38]⟩
abbrev S1x36x50x38 : Shape := ⟨4, ![1, 36, 50, 38]⟩
abbrev S50x38x18 : Shape := ⟨3, ![50, 38, 18]⟩
abbrev S18x50x38 : Shape := ⟨3, ![18, 50, 38]⟩
abbrev S1x18x50x38 : Shape := ⟨4, ![1, 18, 50, 38]⟩

abbrev nBuf : Space → Nat
  | .hbm => 29
  | .vmem => 10
  | .smem => 0
  | _ => 0

abbrev bufTy : (tb : Table) → Fin (tcTables nBuf tb) → BufTy
  | .hbm, ⟨0, _⟩ => ⟨S1x512x50x38, .f32⟩
  | .hbm, ⟨1, _⟩ => ⟨S512x512x3x3, .f32⟩
  | .hbm, ⟨2, _⟩ => ⟨S512, .f32⟩
  | .hbm, ⟨3, _⟩ => ⟨S36x512x1x1, .f32⟩
  | .hbm, ⟨4, _⟩ => ⟨S36, .f32⟩
  | .hbm, ⟨5, _⟩ => ⟨S18x512x1x1, .f32⟩
  | .hbm, ⟨6, _⟩ => ⟨S18, .f32⟩
  | .hbm, ⟨7, _⟩ => ⟨S50x38x1x512, .f32⟩
  | .hbm, ⟨8, _⟩ => ⟨S7600x128, .f32⟩
  | .hbm, ⟨9, _⟩ => ⟨S3x3x512x512, .f32⟩
  | .hbm, ⟨10, _⟩ => ⟨S9x512x512, .f32⟩
  | .hbm, ⟨11, _⟩ => ⟨S9x512x512, .bf16⟩
  | .hbm, ⟨12, _⟩ => ⟨S36x1x1x512, .f32⟩
  | .hbm, ⟨13, _⟩ => ⟨S36x512, .f32⟩
  | .hbm, ⟨14, _⟩ => ⟨S36x512, .bf16⟩
  | .hbm, ⟨15, _⟩ => ⟨S18x1x1x512, .f32⟩
  | .hbm, ⟨16, _⟩ => ⟨S18x512, .f32⟩
  | .hbm, ⟨17, _⟩ => ⟨S18x512, .bf16⟩
  | .hbm, ⟨18, _⟩ => ⟨S1x512, .f32⟩
  | .hbm, ⟨19, _⟩ => ⟨S1x36, .f32⟩
  | .hbm, ⟨20, _⟩ => ⟨S1x18, .f32⟩
  | .hbm, ⟨21, _⟩ => ⟨S1900x36, .f32⟩
  | .hbm, ⟨22, _⟩ => ⟨S1900x18, .f32⟩
  | .hbm, ⟨23, _⟩ => ⟨S50x38x36, .f32⟩
  | .hbm, ⟨24, _⟩ => ⟨S36x50x38, .f32⟩
  | .hbm, ⟨25, _⟩ => ⟨S1x36x50x38, .f32⟩
  | .hbm, ⟨26, _⟩ => ⟨S50x38x18, .f32⟩
  | .hbm, ⟨27, _⟩ => ⟨S18x50x38, .f32⟩
  | .hbm, ⟨28, _⟩ => ⟨S1x18x50x38, .f32⟩
  | .local _ .vmem, ⟨0, _⟩ => ⟨S7600x128, .f32⟩
  | .local _ .vmem, ⟨1, _⟩ => ⟨S9x512x512, .bf16⟩
  | .local _ .vmem, ⟨2, _⟩ => ⟨S36x512, .bf16⟩
  | .local _ .vmem, ⟨3, _⟩ => ⟨S18x512, .bf16⟩
  | .local _ .vmem, ⟨4, _⟩ => ⟨S1x512, .f32⟩
  | .local _ .vmem, ⟨5, _⟩ => ⟨S1x36, .f32⟩
  | .local _ .vmem, ⟨6, _⟩ => ⟨S1x18, .f32⟩
  | .local _ .vmem, ⟨7, _⟩ => ⟨S1900x36, .f32⟩
  | .local _ .vmem, ⟨8, _⟩ => ⟨S1900x18, .f32⟩
  | .local _ .vmem, ⟨9, _⟩ => ⟨S2048x512, .bf16⟩
  | _, _ => ⟨S1x512x50x38, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S7600x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x36 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x18 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1900x36 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1900x18 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S1x512x50x38 : Shape := ⟨4, ![1, 512, 50, 38]⟩
abbrev S512x512x3x3 : Shape := ⟨4, ![512, 512, 3, 3]⟩
abbrev S512 : Shape := ⟨1, ![512]⟩
abbrev S36x512x1x1 : Shape := ⟨4, ![36, 512, 1, 1]⟩
abbrev S36 : Shape := ⟨1, ![36]⟩
abbrev S18x512x1x1 : Shape := ⟨4, ![18, 512, 1, 1]⟩
abbrev S18 : Shape := ⟨1, ![18]⟩
abbrev S512x50x38 : Shape := ⟨3, ![512, 50, 38]⟩
abbrev S_ : Shape := ⟨0, ![]⟩
abbrev S512x52x40 : Shape := ⟨3, ![512, 52, 40]⟩
abbrev S512x512x1x1 : Shape := ⟨4, ![512, 512, 1, 1]⟩
abbrev S512x512 : Shape := ⟨2, ![512, 512]⟩
abbrev S512x1x1 : Shape := ⟨3, ![512, 1, 1]⟩
abbrev S36x512 : Shape := ⟨2, ![36, 512]⟩
abbrev S36x50x38 : Shape := ⟨3, ![36, 50, 38]⟩
abbrev S36x1x1 : Shape := ⟨3, ![36, 1, 1]⟩
abbrev S18x512 : Shape := ⟨2, ![18, 512]⟩
abbrev S18x50x38 : Shape := ⟨3, ![18, 50, 38]⟩
abbrev S18x1x1 : Shape := ⟨3, ![18, 1, 1]⟩
abbrev S1x36x50x38 : Shape := ⟨4, ![1, 36, 50, 38]⟩
abbrev S1x18x50x38 : Shape := ⟨4, ![1, 18, 50, 38]⟩

abbrev nBuf : Space → Nat
  | .hbm => 73
  | .vmem => 0
  | .smem => 0
  | _ => 0

abbrev bufTy : (tb : Table) → Fin (tcTables nBuf tb) → BufTy
  | .hbm, ⟨0, _⟩ => ⟨S1x512x50x38, .f32⟩
  | .hbm, ⟨1, _⟩ => ⟨S512x512x3x3, .f32⟩
  | .hbm, ⟨2, _⟩ => ⟨S512, .f32⟩
  | .hbm, ⟨3, _⟩ => ⟨S36x512x1x1, .f32⟩
  | .hbm, ⟨4, _⟩ => ⟨S36, .f32⟩
  | .hbm, ⟨5, _⟩ => ⟨S18x512x1x1, .f32⟩
  | .hbm, ⟨6, _⟩ => ⟨S18, .f32⟩
  | .hbm, ⟨7, _⟩ => ⟨S512x50x38, .f32⟩
  | .hbm, ⟨8, _⟩ => ⟨S_, .i32⟩
  | .hbm, ⟨9, _⟩ => ⟨S_, .f32⟩
  | .hbm, ⟨10, _⟩ => ⟨S512x52x40, .f32⟩
  | .hbm, ⟨11, _⟩ => ⟨S_, .f32⟩
  | .hbm, ⟨12, _⟩ => ⟨S512x50x38, .f32⟩
  | .hbm, ⟨13, _⟩ => ⟨S512x512x1x1, .f32⟩
  | .hbm, ⟨14, _⟩ => ⟨S512x512, .f32⟩
  | .hbm, ⟨15, _⟩ => ⟨S512x50x38, .f32⟩
  | .hbm, ⟨16, _⟩ => ⟨S512x50x38, .f32⟩
  | .hbm, ⟨17, _⟩ => ⟨S512x50x38, .f32⟩
  | .hbm, ⟨18, _⟩ => ⟨S512x512x1x1, .f32⟩
  | .hbm, ⟨19, _⟩ => ⟨S512x512, .f32⟩
  | .hbm, ⟨20, _⟩ => ⟨S512x50x38, .f32⟩
  | .hbm, ⟨21, _⟩ => ⟨S512x50x38, .f32⟩
  | .hbm, ⟨22, _⟩ => ⟨S512x50x38, .f32⟩
  | .hbm, ⟨23, _⟩ => ⟨S512x512x1x1, .f32⟩
  | .hbm, ⟨24, _⟩ => ⟨S512x512, .f32⟩
  | .hbm, ⟨25, _⟩ => ⟨S512x50x38, .f32⟩
  | .hbm, ⟨26, _⟩ => ⟨S512x50x38, .f32⟩
  | .hbm, ⟨27, _⟩ => ⟨S512x50x38, .f32⟩
  | .hbm, ⟨28, _⟩ => ⟨S512x512x1x1, .f32⟩
  | .hbm, ⟨29, _⟩ => ⟨S512x512, .f32⟩
  | .hbm, ⟨30, _⟩ => ⟨S512x50x38, .f32⟩
  | .hbm, ⟨31, _⟩ => ⟨S512x50x38, .f32⟩
  | .hbm, ⟨32, _⟩ => ⟨S512x50x38, .f32⟩
  | .hbm, ⟨33, _⟩ => ⟨S512x512x1x1, .f32⟩
  | .hbm, ⟨34, _⟩ => ⟨S512x512, .f32⟩
  | .hbm, ⟨35, _⟩ => ⟨S512x50x38, .f32⟩
  | .hbm, ⟨36, _⟩ => ⟨S512x50x38, .f32⟩
  | .hbm, ⟨37, _⟩ => ⟨S512x50x38, .f32⟩
  | .hbm, ⟨38, _⟩ => ⟨S512x512x1x1, .f32⟩
  | .hbm, ⟨39, _⟩ => ⟨S512x512, .f32⟩
  | .hbm, ⟨40, _⟩ => ⟨S512x50x38, .f32⟩
  | .hbm, ⟨41, _⟩ => ⟨S512x50x38, .f32⟩
  | .hbm, ⟨42, _⟩ => ⟨S512x50x38, .f32⟩
  | .hbm, ⟨43, _⟩ => ⟨S512x512x1x1, .f32⟩
  | .hbm, ⟨44, _⟩ => ⟨S512x512, .f32⟩
  | .hbm, ⟨45, _⟩ => ⟨S512x50x38, .f32⟩
  | .hbm, ⟨46, _⟩ => ⟨S512x50x38, .f32⟩
  | .hbm, ⟨47, _⟩ => ⟨S512x50x38, .f32⟩
  | .hbm, ⟨48, _⟩ => ⟨S512x512x1x1, .f32⟩
  | .hbm, ⟨49, _⟩ => ⟨S512x512, .f32⟩
  | .hbm, ⟨50, _⟩ => ⟨S512x50x38, .f32⟩
  | .hbm, ⟨51, _⟩ => ⟨S512x50x38, .f32⟩
  | .hbm, ⟨52, _⟩ => ⟨S512x50x38, .f32⟩
  | .hbm, ⟨53, _⟩ => ⟨S512x512x1x1, .f32⟩
  | .hbm, ⟨54, _⟩ => ⟨S512x512, .f32⟩
  | .hbm, ⟨55, _⟩ => ⟨S512x50x38, .f32⟩
  | .hbm, ⟨56, _⟩ => ⟨S512x50x38, .f32⟩
  | .hbm, ⟨57, _⟩ => ⟨S512x50x38, .f32⟩
  | .hbm, ⟨58, _⟩ => ⟨S512x1x1, .f32⟩
  | .hbm, ⟨59, _⟩ => ⟨S512x50x38, .f32⟩
  | .hbm, ⟨60, _⟩ => ⟨S512x50x38, .f32⟩
  | .hbm, ⟨61, _⟩ => ⟨S36x512, .f32⟩
  | .hbm, ⟨62, _⟩ => ⟨S36x50x38, .f32⟩
  | .hbm, ⟨63, _⟩ => ⟨S36x1x1, .f32⟩
  | .hbm, ⟨64, _⟩ => ⟨S36x50x38, .f32⟩
  | .hbm, ⟨65, _⟩ => ⟨S36x50x38, .f32⟩
  | .hbm, ⟨66, _⟩ => ⟨S18x512, .f32⟩
  | .hbm, ⟨67, _⟩ => ⟨S18x50x38, .f32⟩
  | .hbm, ⟨68, _⟩ => ⟨S18x1x1, .f32⟩
  | .hbm, ⟨69, _⟩ => ⟨S18x50x38, .f32⟩
  | .hbm, ⟨70, _⟩ => ⟨S18x50x38, .f32⟩
  | .hbm, ⟨71, _⟩ => ⟨S1x36x50x38, .f32⟩
  | .hbm, ⟨72, _⟩ => ⟨S1x18x50x38, .f32⟩
  | _, _ => ⟨S1x512x50x38, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩

abbrev nD : Nat := 1
abbrev τ : Topo := Topo.v7x

variable {F : FTy → Type} [FloatOps F]
-- ==== Proof.Algebra.lean ====
/- The algebra of the folded kernel, over the extended reals: a 3×3 convolution followed by a 1×1 head is the convolution with the head multiplied into its weights. -/
module

public import Mathlib.Data.EReal.Operations
public import Mathlib.Algebra.BigOperators.Ring.Finset
public import Mathlib.Algebra.BigOperators.Fin

@[expose] public section

noncomputable section

namespace Cert.Conv

open scoped BigOperators

/-- A sum of reals is the same sum taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor distributes over the sum of a real and any extended real. -/
theorem real_mul_add (h r : ℝ) (b : EReal) : (h : EReal) * ((r : EReal) + b) = (h : EReal) * r + (h : EReal) * b := by
  induction b with
  | coe b => norm_cast; ring
  | top =>
    rcases lt_trichotomy h 0 with hh | hh | hh
    · rw [EReal.coe_add_top, EReal.coe_mul_top_of_neg hh, ← EReal.coe_mul, EReal.add_bot]
    · subst hh; simp
    · rw [EReal.coe_add_top, EReal.coe_mul_top_of_pos hh, ← EReal.coe_mul, EReal.coe_add_top]
  | bot =>
    rcases lt_trichotomy h 0 with hh | hh | hh
    · rw [EReal.add_bot, EReal.coe_mul_bot_of_neg hh, ← EReal.coe_mul, EReal.coe_add_top]
    · subst hh; simp
    · rw [EReal.add_bot, EReal.coe_mul_bot_of_pos hh, ← EReal.coe_mul, EReal.add_bot]

/-- Sums over the head's channels of `h · (r + b)`, at real `h` and `r`. -/
theorem sum_real_mul_add {M : ℕ} (h r : Fin M → ℝ) (b : Fin M → EReal) :
    ∑ m, (h m : EReal) * ((r m : EReal) + b m) = ((∑ m, h m * r m : ℝ) : EReal) + ∑ m, (h m : EReal) * b m := by
  rw [coe_sum, ← Finset.sum_add_distrib]
  refine Finset.sum_congr rfl fun m _ => ?_
  rw [real_mul_add, EReal.coe_mul]

/-- One tap with the head multiplied into the weights first equals the head applied to the tap's result: at real entries. -/
theorem tap_fold {M C : ℕ} (h : Fin M → ℝ) (w : Fin M → Fin C → ℝ) (p : Fin C → ℝ) :
    ∑ c, (p c : EReal) * ∑ m, (h m : EReal) * (w m c : EReal) = ((∑ m, h m * ∑ c, w m c * p c : ℝ) : EReal) := by
  have e : ∀ c, (p c : EReal) * ∑ m, (h m : EReal) * (w m c : EReal) = ((p c * ∑ m, h m * w m c : ℝ) : EReal) := fun c => by
    rw [EReal.coe_mul, coe_sum]
    simp only [EReal.coe_mul]
  simp only [e]
  rw [← coe_sum]
  congr 1
  simp only [Finset.mul_sum]
  rw [Finset.sum_comm]
  exact Finset.sum_congr rfl fun m _ => Finset.sum_congr rfl fun c _ => by ring

/-- One tap of the convolution, in the reals. -/
theorem tap_real {C : ℕ} (w p : Fin C → ℝ) : ∑ c, (w c : EReal) * (p c : EReal) = ((∑ c, w c * p c : ℝ) : EReal) := by
  rw [coe_sum]; simp only [EReal.coe_mul]

/-- **The folded kernel computes the head of the convolution**: nine taps `p t` against the weights `w t` with the head `h` multiplied in, plus the head of
    the convolution's bias `b` and the head's own bias `B`, equal the head applied to the convolution's nine taps plus its bias, plus `B`. The image, the weights
    and the head are real; the biases are any extended reals. -/
theorem fold_head {M C : ℕ} (h : Fin M → ℝ) (w : Fin 9 → Fin M → Fin C → ℝ) (p : Fin 9 → Fin C → ℝ) (b : Fin M → EReal) (B : EReal)
    (T : Fin 9 → EReal) (hT : ∀ t, T t = ∑ c, (p t c : EReal) * ∑ m, (h m : EReal) * (w t m c : EReal))
    (D : Fin 9 → Fin M → EReal) (hD : ∀ t m, D t m = ∑ c, (w t m c : EReal) * (p t c : EReal)) :
    (0 + T 0 + T 1 + T 2 + T 3 + T 4 + T 5 + T 6 + T 7 + T 8) + ((∑ m, (h m : EReal) * b m) + B)
      = (∑ m, (h m : EReal) * ((0 + D 0 m + D 1 m + D 2 m + D 3 m + D 4 m + D 5 m + D 6 m + D 7 m + D 8 m) + b m)) + B := by
  have e : ∀ m, 0 + D 0 m + D 1 m + D 2 m + D 3 m + D 4 m + D 5 m + D 6 m + D 7 m + D 8 m = ((∑ t, ∑ c, w t m c * p t c : ℝ) : EReal) := fun m => by
    simp only [hD, tap_real, Fin.sum_univ_succ, Fin.sum_univ_zero, EReal.coe_add, EReal.coe_zero]
    simp only [zero_add, add_zero, add_assoc]
    rfl
  have k : 0 + T 0 + T 1 + T 2 + T 3 + T 4 + T 5 + T 6 + T 7 + T 8 = ((∑ m, h m * ∑ t, ∑ c, w t m c * p t c : ℝ) : EReal) := by
    have : (∑ m, h m * ∑ t, ∑ c, w t m c * p t c : ℝ) = ∑ t, ∑ m, h m * ∑ c, w t m c * p t c := by
      simp only [Finset.mul_sum (ι := Fin 9)]
      rw [Finset.sum_comm]
    rw [this]
    simp only [hT, tap_fold, Fin.sum_univ_succ, Fin.sum_univ_zero, EReal.coe_add, EReal.coe_zero]
    simp only [zero_add, add_zero, add_assoc]
    rfl
  simp only [e]
  rw [sum_real_mul_add, k, add_assoc]

end Cert.Conv

end
-- ==== Proof.Stage.lean ====
/- The padded image the kernel assembles in its scratch: what its six stores leave, as one function of the image handed to the region. -/
module

public import proofs.«01_k».proof.Proof.Gen.KernelIdeal.Frame
public import Idealize.ShloMosaic.Lib.Pipeline.Value
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

/-- The padded image: rows 64 to 1963 are the pixels, their 512 channels the four 128-wide rows that `x0` gives each pixel; the rows above and below are zero. -/
def stage (x0 : Vec Ideal S7600x128 .f32) : Vec Ideal S2048x512 .bf16 := fun y =>
  if h : 64 ≤ (y 0).val ∧ (y 0).val < 1964 then
    x0 (ix2 ⟨4 * ((y 0).val - 64) + (y 1).val / 128, by have h1 : (y 1).val < 512 := (y 1).isLt; omega⟩ ⟨(y 1).val % 128, Nat.mod_lt _ (by decide)⟩)
  else 0

/-- A pixel's row of the padded image. -/
theorem stage_in (x0 : Vec Ideal S7600x128 .f32) (y : S2048x512.Idx) (h : 64 ≤ (y 0).val ∧ (y 0).val < 1964) (k : S7600x128.Idx)
    (h0 : (k 0).val = 4 * ((y 0).val - 64) + (y 1).val / 128) (h1 : (k 1).val = (y 1).val % 128) : stage x0 y = x0 k := by
  unfold stage
  rw [dif_pos h]
  refine congrArg x0 (funext fun a => Fin.ext ?_)
  match a with
  | ⟨0, _⟩ => exact h0.symm
  | ⟨1, _⟩ => exact h1.symm

/-- The rows above and below the image are zero. -/
theorem stage_out (x0 : Vec Ideal S7600x128 .f32) (y : S2048x512.Idx) (h : ¬(64 ≤ (y 0).val ∧ (y 0).val < 1964)) : stage x0 y = 0 := by
  unfold stage
  rw [dif_neg h]

/-- A stored block is the block read: its casts keep the shape, and the narrowing is exact over the extended reals. -/
theorem pay6_apply (v : Vec Ideal S1900x128 .f32) (x : S1900x128.Idx) : k0_pay6 v x = v x := by
  idx_vars x
  pointwise [k0_pay6]

/-- A stored block is the block read: its casts keep the shape, and the narrowing is exact over the extended reals. -/
theorem pay7_apply (v : Vec Ideal S1900x128 .f32) (x : S1900x128.Idx) : k0_pay7 v x = v x := by
  idx_vars x
  pointwise [k0_pay7]

/-- A stored block is the block read: its casts keep the shape, and the narrowing is exact over the extended reals. -/
theorem pay8_apply (v : Vec Ideal S1900x128 .f32) (x : S1900x128.Idx) : k0_pay8 v x = v x := by
  idx_vars x
  pointwise [k0_pay8]

/-- A stored block is the block read: its casts keep the shape, and the narrowing is exact over the extended reals. -/
theorem pay9_apply (v : Vec Ideal S1900x128 .f32) (x : S1900x128.Idx) : k0_pay9 v x = v x := by
  idx_vars x
  pointwise [k0_pay9]

/-- A zero block is zero. -/
theorem pay4_apply (x : S64x512.Idx) : k0_pay4 (F := Ideal) x = 0 := by
  idx_vars x
  pointwise [k0_pay4]

/-- A zero block is zero. -/
theorem pay5_apply (x : S84x512.Idx) : k0_pay5 (F := Ideal) x = 0 := by
  idx_vars x
  pointwise [k0_pay5]

/-- A load of a box of the region's image, at one of the box's own indices, is the image where the box places that index. -/
theorem strided_apply (arg0 : Memref sig .tc .vmem S7600x128 .f32) (harg0 : arg0.IsWhole) (x0 : Vec Ideal S7600x128 .f32) (B : LoadRect S7600x128)
    (x : B.shape.Idx) : View.readAt (Elt Ideal) arg0.view B (harg0.unread x0) x = x0 (B.idx x) := by
  rw [View.readAt_apply, harg0.read_unread]

/-- The strided load that starts at row `g` of the region's image is what the padded image holds at the columns from `128·g` on. -/
theorem piece_apply (arg0 : Memref sig .tc .vmem S7600x128 .f32) (harg0 : arg0.IsWhole) (x0 : Vec Ideal S7600x128 .f32) (g b : ℕ) (hg : g < 4) (hb : b = 128 * g)
    (inbL : ∀ a, S1900x128.size a = 0 ∨ (![g, 0] : Fin 2 → ℕ) a + (![4, 1] : Fin 2 → ℕ) a * (S1900x128.size a - 1) < S7600x128.size a)
    (inbS : ∀ a, (![64, b] : Fin 2 → ℕ) a + S1900x128.size a ≤ S2048x512.size a) (x : S1900x128.Idx) :
    View.readAt (Elt Ideal) arg0.view (LoadRect.mk (s := S7600x128) ![g, 0] S1900x128.size ![4, 1] inbL) (harg0.unread x0) x
      = stage x0 ((Rect.unit (s := S2048x512) ![64, b] S1900x128.size inbS).emb x) := by
  have h0 : (x 0).val < 1900 := (x 0).isLt
  have h1 : (x 1).val < 128 := (x 1).isLt
  have e0 : (((Rect.unit (s := S2048x512) ![64, b] S1900x128.size inbS).emb x) 0).val = 64 + 1 * (x 0).val := rfl
  have e1 : (((Rect.unit (s := S2048x512) ![64, b] S1900x128.size inbS).emb x) 1).val = b + 1 * (x 1).val := rfl
  have f0 : (((LoadRect.mk (s := S7600x128) ![g, 0] S1900x128.size ![4, 1] inbL).idx x) 0).val = g + 4 * (x 0).val := rfl
  have f1 : (((LoadRect.mk (s := S7600x128) ![g, 0] S1900x128.size ![4, 1] inbL).idx x) 1).val = 0 + 1 * (x 1).val := rfl
  rw [strided_apply]
  refine (stage_in x0 _ ⟨?_, ?_⟩ _ ?_ ?_).symm
  · rw [e0]; omega
  · rw [e0]; omega
  · rw [e0, e1, f0]; omega
  · rw [e1, f1]; omega

/-- The store at the columns from 384 on. -/
theorem piece9 (arg0 : Memref sig .tc .vmem S7600x128 .f32) (harg0 : arg0.IsWhole) (x0 : Vec Ideal S7600x128 .f32) (x : S1900x128.Idx) :
    k0_pay9 (View.readAt (Elt Ideal) arg0.view (LoadRect.mk (s := S7600x128) ![3, 0] S1900x128.size ![4, 1] inb_S7600x128_S1900x128_3_0_s_4_1) (harg0.unread x0)) x
      = stage x0 ((Rect.unit (s := S2048x512) ![64, 384] S1900x128.size inb_S2048x512_S1900x128_64_384).emb x) :=
  (pay9_apply _ x).trans (piece_apply arg0 harg0 x0 3 384 (by decide) rfl _ _ x)

/-- The store at the columns from 256 on. -/
theorem piece8 (arg0 : Memref sig .tc .vmem S7600x128 .f32) (harg0 : arg0.IsWhole) (x0 : Vec Ideal S7600x128 .f32) (x : S1900x128.Idx) :
    k0_pay8 (View.readAt (Elt Ideal) arg0.view (LoadRect.mk (s := S7600x128) ![2, 0] S1900x128.size ![4, 1] inb_S7600x128_S1900x128_2_0_s_4_1) (harg0.unread x0)) x
      = stage x0 ((Rect.unit (s := S2048x512) ![64, 256] S1900x128.size inb_S2048x512_S1900x128_64_256).emb x) :=
  (pay8_apply _ x).trans (piece_apply arg0 harg0 x0 2 256 (by decide) rfl _ _ x)

/-- The store at the columns from 128 on. -/
theorem piece7 (arg0 : Memref sig .tc .vmem S7600x128 .f32) (harg0 : arg0.IsWhole) (x0 : Vec Ideal S7600x128 .f32) (x : S1900x128.Idx) :
    k0_pay7 (View.readAt (Elt Ideal) arg0.view (LoadRect.mk (s := S7600x128) ![1, 0] S1900x128.size ![4, 1] inb_S7600x128_S1900x128_1_0_s_4_1) (harg0.unread x0)) x
      = stage x0 ((Rect.unit (s := S2048x512) ![64, 128] S1900x128.size inb_S2048x512_S1900x128_64_128).emb x) :=
  (pay7_apply _ x).trans (piece_apply arg0 harg0 x0 1 128 (by decide) rfl _ _ x)

/-- The store at the columns from 0 on. -/
theorem piece6 (arg0 : Memref sig .tc .vmem S7600x128 .f32) (harg0 : arg0.IsWhole) (x0 : Vec Ideal S7600x128 .f32) (x : S1900x128.Idx) :
    k0_pay6 (View.readAt (Elt Ideal) arg0.view (LoadRect.mk (s := S7600x128) ![0, 0] S1900x128.size ![4, 1] inb_S7600x128_S1900x128_0_0_s_4_1) (harg0.unread x0)) x
      = stage x0 ((Rect.unit (s := S2048x512) ![64, 0] S1900x128.size inb_S2048x512_S1900x128_64_0).emb x) :=
  (pay6_apply _ x).trans (piece_apply arg0 harg0 x0 0 0 (by decide) rfl _ _ x)

/-- **The scratch after the kernel's stores is the padded image.** -/
theorem scratch_eq (c : Dev nD) (arg0 : Memref sig .tc .vmem S7600x128 .f32) (harg0 : arg0.IsWhole) (arg9 : Memref sig .tc .vmem S2048x512 .bf16)
    (x0 : Vec Ideal S7600x128 .f32) : kernelRun0_A.sl.v87 c arg0 harg0 arg9 x0 = stage x0 := by
  unfold kernelRun0_A.sl.v87
  sl_unfold_words
  funext y
  rw [View.readCov_eq_canon']
  have hy : (Rect.unit ![0, 0] S2048x512.size inb_S2048x512_S2048x512_0_0).toLoadRect.idx y = y :=
    funext fun a => Fin.ext (by
      match a with
      | ⟨0, _⟩ => show 0 + 1 * (y 0).val = (y 0).val; omega
      | ⟨1, _⟩ => show 0 + 1 * (y 1).val = (y 1).val; omega)
  show View.canon _ ((Rect.unit ![0, 0] S2048x512.size inb_S2048x512_S2048x512_0_0).toLoadRect.idx y) = _
  rw [hy]
  have b0 : (y 0).val < 2048 := (y 0).isLt
  have b1 : (y 1).val < 512 := (y 1).isLt
  refine View.canon_apply_of_pieces (stage x0) _ ?_ y ?_
  · intro p hp x
    simp only [List.mem_cons, List.not_mem_nil, or_false] at hp
    rcases hp with rfl | rfl | rfl | rfl | rfl | rfl
    · exact piece9 arg0 harg0 x0 x
    · exact piece8 arg0 harg0 x0 x
    · exact piece7 arg0 harg0 x0 x
    · exact piece6 arg0 harg0 x0 x
    · have x0' : (x 0).val < 84 := (x 0).isLt
      refine (pay5_apply x).trans (stage_out x0 _ ?_).symm
      show ¬(64 ≤ 1964 + 1 * (x 0).val ∧ 1964 + 1 * (x 0).val < 1964); omega
    · have x0' : (x 0).val < 64 := (x 0).isLt
      refine (pay4_apply x).trans (stage_out x0 _ ?_).symm
      show ¬(64 ≤ 0 + 1 * (x 0).val ∧ 0 + 1 * (x 0).val < 1964); omega
  · simp only [List.mem_cons, List.not_mem_nil, or_false, exists_eq_or_imp, exists_eq_left, Rect.mem_set_unit]
    simp only [Fin.forall_fin_two]
    show ((64 ≤ (y 0).val ∧ (y 0).val < 64 + 1900) ∧ 384 ≤ (y 1).val ∧ (y 1).val < 384 + 128)
      ∨ ((64 ≤ (y 0).val ∧ (y 0).val < 64 + 1900) ∧ 256 ≤ (y 1).val ∧ (y 1).val < 256 + 128)
      ∨ ((64 ≤ (y 0).val ∧ (y 0).val < 64 + 1900) ∧ 128 ≤ (y 1).val ∧ (y 1).val < 128 + 128)
      ∨ ((64 ≤ (y 0).val ∧ (y 0).val < 64 + 1900) ∧ 0 ≤ (y 1).val ∧ (y 1).val < 0 + 128)
      ∨ ((1964 ≤ (y 0).val ∧ (y 0).val < 1964 + 84) ∧ 0 ≤ (y 1).val ∧ (y 1).val < 0 + 512)
      ∨ ((0 ≤ (y 0).val ∧ (y 0).val < 0 + 64) ∧ 0 ≤ (y 1).val ∧ (y 1).val < 0 + 512)
    omega

end Cert.KernelIdeal.Value

end
-- ==== Proof.Body.lean ====
/- The kernel body's arithmetic read at one row and one head: what each printed payload of the body computes, as sums over channels. -/
module

public import proofs.«01_k».proof.Proof.Gen.KernelIdeal.Skeleton
public import Idealize.ShloMosaic.Lib.Pointwise
public import Idealize.ShloMosaic.Lib.MatmulPlain
public import Idealize.ShloMosaic.Lib.ValueIdx
public import Idealize.ShloMosaic.Lib.IdealHost

@[expose] public section

set_option maxRecDepth 16384

noncomputable section

namespace Cert.KernelIdeal.Value

open Cert.KernelIdeal Cert.KernelIdeal.Gen Idealize.ShloMosaic
open scoped BigOperators

/-- One tap of the folded kernel: row `r` of the image `S` against the tap's weights `W`, with the head's row `o` of `H` already multiplied in. -/
def tapAt (S : Vec Ideal S2048x512 .bf16) (H : FVec Ideal S54x512 .bf16) (W : Vec Ideal S1x512x512 .bf16) (r : Fin 2048) (o : Fin 54) : EReal :=
  ∑ c : Fin 512, S (ix2 r c) * ∑ m : Fin 512, H (ix2 o m) * W (ix3 0 m c)

/-- The printed product of one tap, at row `r` and head `o`, is `tapAt`. -/
theorem tap_apply (S : Vec Ideal S2048x512 .bf16) (H : FVec Ideal S54x512 .bf16) (W : Vec Ideal S1x512x512 .bf16) (r : Fin 2048) (o : Fin 54) :
    k0_pay19 H S W (ix2 r o) = tapAt S H W r o := by
  unfold k0_pay19 tapAt
  pointwise

/-- The column number of row `q` of the image, as the kernel computes it from the row number. -/
theorem col_apply (q : Fin 1920) :
    k0_pay15 (iota Kind.tc S1920x1 32 [0] iota_S1920x1_d0_w32) k0_pay12 k0_pay13 k0_pay14 (ix2 q 0) = BitVec.ofNat 32 (q.val % 38) := by
  revert q
  pointwise [k0_pay15, k0_pay12, k0_pay13, k0_pay14]
  decide +kernel

/-- The head's stacked rows, at row `o`: the loc head's first 36 rows, then the score head's 18. -/
theorem head_apply (x2 : Vec Ideal S36x512 .bf16) (x3 : Vec Ideal S18x512 .bf16) (o : Fin 54) (m : Fin 512) :
    k0_pay10 x2 x3 (ix2 o m) = if h : o.val < 36 then x2 (ix2 ⟨o.val, h⟩ m) else x3 (ix2 ⟨o.val - 36, by omega⟩ m) := by
  pointwise [k0_pay10]

/-- The kernel's bias row at head `o`: the head applied to the convolution's bias, plus the head's own bias. -/
theorem bias_apply (x2 : Vec Ideal S36x512 .bf16) (x3 : Vec Ideal S18x512 .bf16) (x4 : Vec Ideal S1x512 .f32) (x5 : Vec Ideal S1x36 .f32) (x6 : Vec Ideal S1x18 .f32) (o : Fin 54) :
    k0_pay11 x2 x3 x5 x6 x4 (ix2 0 o) = (∑ m : Fin 512, k0_pay10 x2 x3 (ix2 o m) * x4 (ix2 0 m)) + (if h : o.val < 36 then x5 (ix2 0 ⟨o.val, h⟩) else x6 (ix2 0 ⟨o.val - 36, by omega⟩)) := by
  generalize hH : k0_pay10 x2 x3 = H
  unfold k0_pay11
  rw [hH]
  pointwise

/-- The mask of the taps to the left of row `q`'s column: 0 in column 0, 1 in the others. -/
theorem maskL_apply (q : Fin 1920) :
    (k0_pay16 (F := Ideal) (iota Kind.tc S1920x1 32 [0] iota_S1920x1_d0_w32) k0_pay12 k0_pay13 k0_pay14) (ix2 q 0) = if 1 ≤ q.val % 38 then 1 else 0 := by
  have e : IntOp.cmpi .sgt (BitVec.ofNat 32 (q.val % 38)) 0#32 = if 1 ≤ q.val % 38 then 1#1 else 0#1 := by
    revert q; decide +kernel
  have h : (k0_pay16 (F := Ideal) (iota Kind.tc S1920x1 32 [0] iota_S1920x1_d0_w32) k0_pay12 k0_pay13 k0_pay14) (ix2 q 0)
      = FloatOps.sitofp .f32 ((IntOp.cmpi .sgt (k0_pay15 (iota Kind.tc S1920x1 32 [0] iota_S1920x1_d0_w32) k0_pay12 k0_pay13 k0_pay14 (ix2 q 0)) 0#32).setWidth 32) := rfl
  rw [h, col_apply, e]
  split <;> simp [FloatOps.sitofp]

/-- The mask of the taps to the right of row `q`'s column: 0 in column 37, 1 in the others. -/
theorem maskR_apply (q : Fin 1920) :
    (k0_pay17 (F := Ideal) (iota Kind.tc S1920x1 32 [0] iota_S1920x1_d0_w32) k0_pay12 k0_pay13 k0_pay14) (ix2 q 0) = if q.val % 38 + 2 ≤ 38 then 1 else 0 := by
  have e : IntOp.cmpi .slt (BitVec.ofNat 32 (q.val % 38)) 37#32 = if q.val % 38 + 2 ≤ 38 then 1#1 else 0#1 := by
    revert q; decide +kernel
  have h : (k0_pay17 (F := Ideal) (iota Kind.tc S1920x1 32 [0] iota_S1920x1_d0_w32) k0_pay12 k0_pay13 k0_pay14) (ix2 q 0)
      = FloatOps.sitofp .f32 ((IntOp.cmpi .slt (k0_pay15 (iota Kind.tc S1920x1 32 [0] iota_S1920x1_d0_w32) k0_pay12 k0_pay13 k0_pay14 (ix2 q 0)) 37#32).setWidth 32) := rfl
  rw [h, col_apply, e]
  split <;> simp [FloatOps.sitofp]

/-- **What the body computes at row `q` and head `o`**: the nine taps at rows `q + 25 + 38·ky + kx` of the image, the left and right ones masked, plus the bias. -/
theorem acc_apply (H : FVec Ideal S54x512 .bf16) (b : FVec Ideal S1x54 .f32) (mL mR : FVec Ideal S1920x1 .f32) (S : Vec Ideal S2048x512 .bf16)
    (v51 v53 v73 : IVec S1920x1 32) (v72 : IVec S1920x1 1) (hL : k0_pay16 v51 v53 v72 v73 = mL)
    (W0 W1 W2 W3 W4 W5 W6 W7 W8 : Vec Ideal S1x512x512 .bf16) (q : Fin 1920) (o : Fin 54) :
    k0_pay1 H b mR S (k0_pay20 H mL mR S (k0_pay18 H v51 v53 v72 v73 S W0 W1) (k0_pay19 H S W2) W3 W4 W5) (k0_pay21 H S W6) (k0_pay22 mL) W7 W8 (ix2 q o)
      = (0 + tapAt S H W0 ⟨25 + q.val, by omega⟩ o * mL (ix2 q 0) + tapAt S H W1 ⟨26 + q.val, by omega⟩ o + tapAt S H W2 ⟨27 + q.val, by omega⟩ o * mR (ix2 q 0)
          + tapAt S H W3 ⟨63 + q.val, by omega⟩ o * mL (ix2 q 0) + tapAt S H W4 ⟨64 + q.val, by omega⟩ o + tapAt S H W5 ⟨65 + q.val, by omega⟩ o * mR (ix2 q 0)
          + tapAt S H W6 ⟨101 + q.val, by omega⟩ o * mL (ix2 q 0) + tapAt S H W7 ⟨102 + q.val, by omega⟩ o + tapAt S H W8 ⟨103 + q.val, by omega⟩ o * mR (ix2 q 0))
        + b (ix2 0 o) := by
  unfold k0_pay1 k0_pay20 k0_pay18 k0_pay19 k0_pay21 k0_pay22 tapAt
  rw [hL]
  pointwise

end Cert.KernelIdeal.Value

end
-- ==== Proof.Out.lean ====
/- The region's two output blocks read at one row and one head. -/
module

public import proofs.«01_k».proof.Proof.Stage
public import proofs.«01_k».proof.Proof.Body

@[expose] public section

set_option maxRecDepth 16384

noncomputable section

namespace Cert.KernelIdeal.Value

open Cert.KernelIdeal Cert.KernelIdeal.Gen Idealize.ShloMosaic Idealize.ShloMosaic.TcCoe Idealize.SL.Sem
open scoped BigOperators

/-- Offsets all zero, as a load or store of a whole block prints them. -/
theorem hz2 : (![0, 0] : Fin 2 → ℕ) = fun _ => 0 := funext fun a => by match a with | ⟨0, _⟩ => rfl | ⟨1, _⟩ => rfl

/-- Tap `t` of the kernel at row `r` of the padded image and head `o`: the tap's weights with the head multiplied in, against the image's channels. -/
def tap (x0 : Vec Ideal S7600x128 .f32) (x1 : Vec Ideal S9x512x512 .bf16) (H : FVec Ideal S54x512 .bf16) (t : Fin 9) (r : Fin 2048) (o : Fin 54) : EReal :=
  ∑ c : Fin 512, stage x0 (ix2 r c) * ∑ m : Fin 512, H (ix2 o m) * x1 (ix3 t m c)

/-- The mask of the taps one column to the left: 0 in column 0. -/
def maskL (q : Fin 1900) : EReal := if 1 ≤ q.val % 38 then 1 else 0
/-- The mask of the taps one column to the right: 0 in column 37. -/
def maskR (q : Fin 1900) : EReal := if q.val % 38 + 2 ≤ 38 then 1 else 0

/-- The nine taps at pixel `q` and head `o`, masked at the left and right edges, plus the bias. -/
def accAt (x0 : Vec Ideal S7600x128 .f32) (x1 : Vec Ideal S9x512x512 .bf16) (H : FVec Ideal S54x512 .bf16) (b : FVec Ideal S1x54 .f32) (q : Fin 1900) (o : Fin 54) : EReal :=
  (0 + tap x0 x1 H 0 ⟨25 + q.val, by omega⟩ o * maskL q + tap x0 x1 H 1 ⟨26 + q.val, by omega⟩ o + tap x0 x1 H 2 ⟨27 + q.val, by omega⟩ o * maskR q
    + tap x0 x1 H 3 ⟨63 + q.val, by omega⟩ o * maskL q + tap x0 x1 H 4 ⟨64 + q.val, by omega⟩ o + tap x0 x1 H 5 ⟨65 + q.val, by omega⟩ o * maskR q
    + tap x0 x1 H 6 ⟨101 + q.val, by omega⟩ o * maskL q + tap x0 x1 H 7 ⟨102 + q.val, by omega⟩ o + tap x0 x1 H 8 ⟨103 + q.val, by omega⟩ o * maskR q)
  + b (ix2 0 o)

/-- A tap read off a slab of the weights. -/
theorem tapAt_slab (x0 : Vec Ideal S7600x128 .f32) (x1 : Vec Ideal S9x512x512 .bf16) (H : FVec Ideal S54x512 .bf16) (t : Fin 9)
    (inb : ∀ a, (![t.val, 0, 0] : Fin 3 → ℕ) a + (![1, 512, 512] : Fin 3 → ℕ) a ≤ S9x512x512.size a) (r : Fin 2048) (o : Fin 54) :
    tapAt (stage x0) H (View.ld x1 (Rect.unit (s := S9x512x512) ![t.val, 0, 0] ![1, 512, 512] inb)) r o = tap x0 x1 H t r o := by
  unfold tapAt tap
  refine Finset.sum_congr rfl fun c _ => congrArg (stage x0 (ix2 r c) * ·) (Finset.sum_congr rfl fun m _ => congrArg (H (ix2 o m) * ·) ?_)
  refine congrArg x1 (funext fun a => Fin.ext ?_)
  match a with
  | ⟨0, _⟩ => show t.val + 1 * 0 = t.val; omega
  | ⟨1, _⟩ => show 0 + 1 * m.val = m.val; omega
  | ⟨2, _⟩ => show 0 + 1 * c.val = c.val; omega

/-- The body's accumulator over the padded image and the nine slabs of the weights, at pixel `q` and head `o`. -/
theorem acc_eq (x0 : Vec Ideal S7600x128 .f32) (x1 : Vec Ideal S9x512x512 .bf16) (H : FVec Ideal S54x512 .bf16) (b : FVec Ideal S1x54 .f32) (q : Fin 1900) (o : Fin 54) :
    k0_pay1 H b (k0_pay17 (iota Kind.tc S1920x1 32 [0] iota_S1920x1_d0_w32) k0_pay12 k0_pay13 k0_pay14) (stage x0)
      (k0_pay20 H (k0_pay16 (iota Kind.tc S1920x1 32 [0] iota_S1920x1_d0_w32) k0_pay12 k0_pay13 k0_pay14)
        (k0_pay17 (iota Kind.tc S1920x1 32 [0] iota_S1920x1_d0_w32) k0_pay12 k0_pay13 k0_pay14) (stage x0)
        (k0_pay18 H (iota Kind.tc S1920x1 32 [0] iota_S1920x1_d0_w32) k0_pay12 k0_pay13 k0_pay14 (stage x0)
          (View.ld x1 (Rect.unit (s := S9x512x512) ![0, 0, 0] ![1, 512, 512] inb_S9x512x512_S1x512x512_0_0_0))
          (View.ld x1 (Rect.unit (s := S9x512x512) ![1, 0, 0] ![1, 512, 512] inb_S9x512x512_S1x512x512_1_0_0)))
        (k0_pay19 H (stage x0) (View.ld x1 (Rect.unit (s := S9x512x512) ![2, 0, 0] ![1, 512, 512] inb_S9x512x512_S1x512x512_2_0_0)))
        (View.ld x1 (Rect.unit (s := S9x512x512) ![3, 0, 0] ![1, 512, 512] inb_S9x512x512_S1x512x512_3_0_0))
        (View.ld x1 (Rect.unit (s := S9x512x512) ![4, 0, 0] ![1, 512, 512] inb_S9x512x512_S1x512x512_4_0_0))
        (View.ld x1 (Rect.unit (s := S9x512x512) ![5, 0, 0] ![1, 512, 512] inb_S9x512x512_S1x512x512_5_0_0)))
      (k0_pay21 H (stage x0) (View.ld x1 (Rect.unit (s := S9x512x512) ![6, 0, 0] ![1, 512, 512] inb_S9x512x512_S1x512x512_6_0_0)))
      (k0_pay22 (k0_pay16 (iota Kind.tc S1920x1 32 [0] iota_S1920x1_d0_w32) k0_pay12 k0_pay13 k0_pay14))
      (View.ld x1 (Rect.unit (s := S9x512x512) ![7, 0, 0] ![1, 512, 512] inb_S9x512x512_S1x512x512_7_0_0))
      (View.ld x1 (Rect.unit (s := S9x512x512) ![8, 0, 0] ![1, 512, 512] inb_S9x512x512_S1x512x512_8_0_0)) (ix2 ⟨q.val, by omega⟩ o)
    = accAt x0 x1 H b q o := by
  rw [acc_apply H b _ _ (stage x0) _ _ _ _ rfl, maskL_apply, maskR_apply]
  unfold accAt maskL maskR
  rw [← tapAt_slab x0 x1 H 0 inb_S9x512x512_S1x512x512_0_0_0, ← tapAt_slab x0 x1 H 1 inb_S9x512x512_S1x512x512_1_0_0,
    ← tapAt_slab x0 x1 H 2 inb_S9x512x512_S1x512x512_2_0_0, ← tapAt_slab x0 x1 H 3 inb_S9x512x512_S1x512x512_3_0_0,
    ← tapAt_slab x0 x1 H 4 inb_S9x512x512_S1x512x512_4_0_0, ← tapAt_slab x0 x1 H 5 inb_S9x512x512_S1x512x512_5_0_0,
    ← tapAt_slab x0 x1 H 6 inb_S9x512x512_S1x512x512_6_0_0, ← tapAt_slab x0 x1 H 7 inb_S9x512x512_S1x512x512_7_0_0,
    ← tapAt_slab x0 x1 H 8 inb_S9x512x512_S1x512x512_8_0_0]
  rfl

/-- Window 7's block after the body, at row `q` and head `o`: the accumulated taps plus the bias at row `o` of the stacked heads. -/
theorem out7_apply (c : Dev nD) (arg0 : Memref sig .tc .vmem S7600x128 .f32) (harg0 : arg0.IsWhole) (arg1 : Memref sig .tc .vmem S9x512x512 .bf16) (harg1 : arg1.IsWhole)
    (arg2 : Memref sig .tc .vmem S36x512 .bf16) (harg2 : arg2.IsWhole) (arg3 : Memref sig .tc .vmem S18x512 .bf16) (harg3 : arg3.IsWhole)
    (arg4 : Memref sig .tc .vmem S1x512 .f32) (harg4 : arg4.IsWhole) (arg5 : Memref sig .tc .vmem S1x36 .f32) (harg5 : arg5.IsWhole)
    (arg6 : Memref sig .tc .vmem S1x18 .f32) (harg6 : arg6.IsWhole) (arg7 : Memref sig .tc .vmem S1900x36 .f32) (harg7 : arg7.IsWhole)
    (arg8 : Memref sig .tc .vmem S1900x18 .f32) (harg8 : arg8.IsWhole) (arg9 : Memref sig .tc .vmem S2048x512 .bf16) (harg9 : arg9.IsWhole)
    (x0 : Vec Ideal S7600x128 .f32) (x1 : Vec Ideal S9x512x512 .bf16) (x2 : Vec Ideal S36x512 .bf16) (x3 : Vec Ideal S18x512 .bf16)
    (x4 : Vec Ideal S1x512 .f32) (x5 : Vec Ideal S1x36 .f32) (x6 : Vec Ideal S1x18 .f32) (q : Fin 1900) (o : Fin 36) :
    out0_A_7 c arg0 harg0 arg1 harg1 arg2 harg2 arg3 harg3 arg4 harg4 arg5 harg5 arg6 harg6 arg7 harg7 arg8 harg8 arg9 harg9 x0 x1 x2 x3 x4 x5 x6 (ix2 q o)
      = accAt x0 x1 (k0_pay10 x2 x3) (k0_pay11 x2 x3 x5 x6 x4) q ⟨0 + o.val, by omega⟩ := by
  unfold out0_A_7
  rw [View.read_writes_junk_eq_canon]
  unfold kernelRun0_A
  dsimp only
  unfold kernelRun0_A.sl.r_6 kernelRun0_A.sl.r_5 kernelRun0_A.sl.r_4 kernelRun0_A.sl.r_3 kernelRun0_A.sl.r_2 kernelRun0_A.sl.r_1 kernelRun0_A.sl.r kernelRun0_A.sl.v51
  rw [scratch_eq]
  simp only [View.readAt_eq_ld, Memref.IsWhole.read_unread]
  rw [View.canon_unit_zero hz2, View.ld_unit_zero hz2, View.ld_unit_zero hz2, View.ld_unit_zero hz2, View.ld_unit_zero hz2, View.ld_unit_zero hz2]
  refine Eq.trans ?_ (acc_eq x0 x1 (k0_pay10 x2 x3) (k0_pay11 x2 x3 x5 x6 x4) q ⟨0 + o.val, by omega⟩)
  pointwise [k0_pay2]

/-- Window 8's block after the body, at row `q` and head `o`: the accumulated taps plus the bias at row `36 + o` of the stacked heads. -/
theorem out8_apply (c : Dev nD) (arg0 : Memref sig .tc .vmem S7600x128 .f32) (harg0 : arg0.IsWhole) (arg1 : Memref sig .tc .vmem S9x512x512 .bf16) (harg1 : arg1.IsWhole)
    (arg2 : Memref sig .tc .vmem S36x512 .bf16) (harg2 : arg2.IsWhole) (arg3 : Memref sig .tc .vmem S18x512 .bf16) (harg3 : arg3.IsWhole)
    (arg4 : Memref sig .tc .vmem S1x512 .f32) (harg4 : arg4.IsWhole) (arg5 : Memref sig .tc .vmem S1x36 .f32) (harg5 : arg5.IsWhole)
    (arg6 : Memref sig .tc .vmem S1x18 .f32) (harg6 : arg6.IsWhole) (arg7 : Memref sig .tc .vmem S1900x36 .f32) (harg7 : arg7.IsWhole)
    (arg8 : Memref sig .tc .vmem S1900x18 .f32) (harg8 : arg8.IsWhole) (arg9 : Memref sig .tc .vmem S2048x512 .bf16) (harg9 : arg9.IsWhole)
    (x0 : Vec Ideal S7600x128 .f32) (x1 : Vec Ideal S9x512x512 .bf16) (x2 : Vec Ideal S36x512 .bf16) (x3 : Vec Ideal S18x512 .bf16)
    (x4 : Vec Ideal S1x512 .f32) (x5 : Vec Ideal S1x36 .f32) (x6 : Vec Ideal S1x18 .f32) (q : Fin 1900) (o : Fin 18) :
    out0_A_8 c arg0 harg0 arg1 harg1 arg2 harg2 arg3 harg3 arg4 harg4 arg5 harg5 arg6 harg6 arg7 harg7 arg8 harg8 arg9 harg9 x0 x1 x2 x3 x4 x5 x6 (ix2 q o)
      = accAt x0 x1 (k0_pay10 x2 x3) (k0_pay11 x2 x3 x5 x6 x4) q ⟨36 + o.val, by omega⟩ := by
  unfold out0_A_8
  rw [View.read_writes_junk_eq_canon]
  unfold kernelRun0_A
  dsimp only
  unfold kernelRun0_A.sl.r_6 kernelRun0_A.sl.r_5 kernelRun0_A.sl.r_4 kernelRun0_A.sl.r_3 kernelRun0_A.sl.r_2 kernelRun0_A.sl.r_1 kernelRun0_A.sl.r kernelRun0_A.sl.v51
  rw [scratch_eq]
  simp only [View.readAt_eq_ld, Memref.IsWhole.read_unread]
  rw [View.canon_unit_zero hz2, View.ld_unit_zero hz2, View.ld_unit_zero hz2, View.ld_unit_zero hz2, View.ld_unit_zero hz2, View.ld_unit_zero hz2]
  refine Eq.trans ?_ (acc_eq x0 x1 (k0_pay10 x2 x3) (k0_pay11 x2 x3 x5 x6 x4) q ⟨36 + o.val, by omega⟩)
  pointwise [k0_pay3]

end Cert.KernelIdeal.Value

end
-- ==== Proof.Host.lean ====
/- What the region's input arrays hold when it starts: the host operations before it read at one entry, as entries of
   the arguments. -/
module

public import proofs.«01_k».proof.Proof.Out

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (c : Dev nD)

/-- `main_v1` before the region: the image, one row of 128 channels after another. -/
theorem V_v1 : V m c main_v1 = (shapeCast S7600x128 (transpose S50x38x1x512 [2, 3, 0, 1] (m ((c.tc : Thread nD τ).loc main_arg0) : FVec Ideal S1x512x50x38 .f32) transposes_S1x512x50x38_S50x38x1x512_2_3_0_1) shapeCasts_S50x38x1x512_S7600x128 : FVec Ideal S7600x128 .f32) := by
  simp only [V, V0, hostOps0, List.flatten_cons, List.flatten_nil, List.append_nil, List.cons_append, List.nil_append]
  after_results
  rfl

/-- `main_v1` before the region, at one entry. -/
theorem V_v1_apply (r : Fin 7600) (l : Fin 128) :
    (V m c main_v1 : FVec Ideal S7600x128 .f32) (ix2 r l)
      = (m ((c.tc : Thread nD τ).loc main_arg0) : FVec Ideal S1x512x50x38 .f32) (ix4 0 ⟨r.val % 4 * 128 + l.val, by omega⟩ ⟨r.val / 152, by omega⟩ ⟨r.val / 4 % 38, by omega⟩) := by
  rw [V_v1]
  generalize (m ((c.tc : Thread nD τ).loc main_arg0) : FVec Ideal S1x512x50x38 .f32) = x
  pointwise

/-- `main_v4` before the region: the convolution's weights, one 512×512 matrix per tap. -/
theorem V_v4 : V m c main_v4 = (truncf (F := Ideal) .bf16 (shapeCast S9x512x512 (transpose S3x3x512x512 [2, 3, 0, 1] (m ((c.tc : Thread nD τ).loc main_arg1) : FVec Ideal S512x512x3x3 .f32) transposes_S512x512x3x3_S3x3x512x512_2_3_0_1) shapeCasts_S3x3x512x512_S9x512x512) bitsLt_bf16_f32 : FVec Ideal S9x512x512 .bf16) := by
  simp only [V, V0, hostOps0, List.flatten_cons, List.flatten_nil, List.append_nil, List.cons_append, List.nil_append]
  after_results
  rfl

/-- `main_v4` before the region, at one entry. -/
theorem V_v4_apply (t : Fin 9) (i l : Fin 512) :
    (V m c main_v4 : FVec Ideal S9x512x512 .bf16) (ix3 t i l)
      = (m ((c.tc : Thread nD τ).loc main_arg1) : FVec Ideal S512x512x3x3 .f32) (ix4 i l ⟨t.val / 3, by omega⟩ ⟨t.val % 3, by omega⟩) := by
  rw [V_v4]
  generalize (m ((c.tc : Thread nD τ).loc main_arg1) : FVec Ideal S512x512x3x3 .f32) = x
  pointwise

/-- `main_v7` before the region: the first head's weights. -/
theorem V_v7 : V m c main_v7 = (truncf (F := Ideal) .bf16 (shapeCast S36x512 (transpose S36x1x1x512 [0, 2, 3, 1] (m ((c.tc : Thread nD τ).loc main_arg3) : FVec Ideal S36x512x1x1 .f32) transposes_S36x512x1x1_S36x1x1x512_0_2_3_1) shapeCasts_S36x1x1x512_S36x512) bitsLt_bf16_f32 : FVec Ideal S36x512 .bf16) := by
  simp only [V, V0, hostOps0, List.flatten_cons, List.flatten_nil, List.append_nil, List.cons_append, List.nil_append]
  after_results
  rfl

/-- `main_v7` before the region, at one entry. -/
theorem V_v7_apply (o : Fin 36) (i : Fin 512) :
    (V m c main_v7 : FVec Ideal S36x512 .bf16) (ix2 o i)
      = (m ((c.tc : Thread nD τ).loc main_arg3) : FVec Ideal S36x512x1x1 .f32) (ix4 o i 0 0) := by
  rw [V_v7]
  generalize (m ((c.tc : Thread nD τ).loc main_arg3) : FVec Ideal S36x512x1x1 .f32) = x
  pointwise

/-- `main_v10` before the region: the second head's weights. -/
theorem V_v10 : V m c main_v10 = (truncf (F := Ideal) .bf16 (shapeCast S18x512 (transpose S18x1x1x512 [0, 2, 3, 1] (m ((c.tc : Thread nD τ).loc main_arg5) : FVec Ideal S18x512x1x1 .f32) transposes_S18x512x1x1_S18x1x1x512_0_2_3_1) shapeCasts_S18x1x1x512_S18x512) bitsLt_bf16_f32 : FVec Ideal S18x512 .bf16) := by
  simp only [V, V0, hostOps0, List.flatten_cons, List.flatten_nil, List.append_nil, List.cons_append, List.nil_append]
  after_results
  rfl

/-- `main_v10` before the region, at one entry. -/
theorem V_v10_apply (o : Fin 18) (i : Fin 512) :
    (V m c main_v10 : FVec Ideal S18x512 .bf16) (ix2 o i)
      = (m ((c.tc : Thread nD τ).loc main_arg5) : FVec Ideal S18x512x1x1 .f32) (ix4 o i 0 0) := by
  rw [V_v10]
  generalize (m ((c.tc : Thread nD τ).loc main_arg5) : FVec Ideal S18x512x1x1 .f32) = x
  pointwise

/-- `main_v11` before the region: the convolution's bias. -/
theorem V_v11 : V m c main_v11 = (shapeCast S1x512 (m ((c.tc : Thread nD τ).loc main_arg2) : FVec Ideal S512 .f32) shapeCasts_S512_S1x512 : FVec Ideal S1x512 .f32) := by
  simp only [V, V0, hostOps0, List.flatten_cons, List.flatten_nil, List.append_nil, List.cons_append, List.nil_append]
  after_results
  rfl

/-- `main_v11` before the region, at one entry. -/
theorem V_v11_apply (i : Fin 512) :
    (V m c main_v11 : FVec Ideal S1x512 .f32) (ix2 0 i)
      = (m ((c.tc : Thread nD τ).loc main_arg2) : FVec Ideal S512 .f32) (ix1 i) := by
  rw [V_v11]
  generalize (m ((c.tc : Thread nD τ).loc main_arg2) : FVec Ideal S512 .f32) = x
  pointwise

/-- `main_v12` before the region: the first head's bias. -/
theorem V_v12 : V m c main_v12 = (shapeCast S1x36 (m ((c.tc : Thread nD τ).loc main_arg4) : FVec Ideal S36 .f32) shapeCasts_S36_S1x36 : FVec Ideal S1x36 .f32) := by
  simp only [V, V0, hostOps0, List.flatten_cons, List.flatten_nil, List.append_nil, List.cons_append, List.nil_append]
  after_results
  rfl

/-- `main_v12` before the region, at one entry. -/
theorem V_v12_apply (o : Fin 36) :
    (V m c main_v12 : FVec Ideal S1x36 .f32) (ix2 0 o)
      = (m ((c.tc : Thread nD τ).loc main_arg4) : FVec Ideal S36 .f32) (ix1 o) := by
  rw [V_v12]
  generalize (m ((c.tc : Thread nD τ).loc main_arg4) : FVec Ideal S36 .f32) = x
  pointwise

/-- `main_v13` before the region: the second head's bias. -/
theorem V_v13 : V m c main_v13 = (shapeCast S1x18 (m ((c.tc : Thread nD τ).loc main_arg6) : FVec Ideal S18 .f32) shapeCasts_S18_S1x18 : FVec Ideal S1x18 .f32) := by
  simp only [V, V0, hostOps0, List.flatten_cons, List.flatten_nil, List.append_nil, List.cons_append, List.nil_append]
  after_results
  rfl

/-- `main_v13` before the region, at one entry. -/
theorem V_v13_apply (o : Fin 18) :
    (V m c main_v13 : FVec Ideal S1x18 .f32) (ix2 0 o)
      = (m ((c.tc : Thread nD τ).loc main_arg6) : FVec Ideal S18 .f32) (ix1 o) := by
  rw [V_v13]
  generalize (m ((c.tc : Thread nD τ).loc main_arg6) : FVec Ideal S18 .f32) = x
  pointwise

end Cert.KernelIdeal.Value

end
-- ==== Proof.Region.lean ====
/- The region's two output arrays after its one grid point, and the two results the host code makes of them: the
   accumulated taps over the input arrays, one row per pixel and one column per head. -/
module

public import proofs.«01_k».proof.Proof.Host

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (c : Dev nD)

/-- Every window's block index is zero: each window's one block is the whole of its array. -/
theorem index_zero : ∀ (w : Fin cfg0.W) (t : Fin cfg0.N) (a : Fin (cfg0.win w).shape.rank), (cfg0.win w).index t a = 0 := by
  decide +kernel

/-- The body reads all of `main_v1` through window 0. -/
theorem iblk_0 (t : Fin cfg0.N) : iblk m c 0 t = (V m c main_v1 : Vec Ideal S7600x128 .f32) := by
  unfold iblk
  funext y
  rw [View.read_apply]
  exact congrArg (V m c main_v1) (funext fun a => Fin.ext (Pipeline.Window.rect_emb_val_of_index_zero (cfg0.win 0) t a (index_zero 0 t a) y))

/-- The body reads all of `main_v4` through window 1. -/
theorem iblk_1 (t : Fin cfg0.N) : iblk m c 1 t = (V m c main_v4 : Vec Ideal S9x512x512 .bf16) := by
  unfold iblk
  funext y
  rw [View.read_apply]
  exact congrArg (V m c main_v4) (funext fun a => Fin.ext (Pipeline.Window.rect_emb_val_of_index_zero (cfg0.win 1) t a (index_zero 1 t a) y))

/-- The body reads all of `main_v7` through window 2. -/
theorem iblk_2 (t : Fin cfg0.N) : iblk m c 2 t = (V m c main_v7 : Vec Ideal S36x512 .bf16) := by
  unfold iblk
  funext y
  rw [View.read_apply]
  exact congrArg (V m c main_v7) (funext fun a => Fin.ext (Pipeline.Window.rect_emb_val_of_index_zero (cfg0.win 2) t a (index_zero 2 t a) y))

/-- The body reads all of `main_v10` through window 3. -/
theorem iblk_3 (t : Fin cfg0.N) : iblk m c 3 t = (V m c main_v10 : Vec Ideal S18x512 .bf16) := by
  unfold iblk
  funext y
  rw [View.read_apply]
  exact congrArg (V m c main_v10) (funext fun a => Fin.ext (Pipeline.Window.rect_emb_val_of_index_zero (cfg0.win 3) t a (index_zero 3 t a) y))

/-- The body reads all of `main_v11` through window 4. -/
theorem iblk_4 (t : Fin cfg0.N) : iblk m c 4 t = (V m c main_v11 : Vec Ideal S1x512 .f32) := by
  unfold iblk
  funext y
  rw [View.read_apply]
  exact congrArg (V m c main_v11) (funext fun a => Fin.ext (Pipeline.Window.rect_emb_val_of_index_zero (cfg0.win 4) t a (index_zero 4 t a) y))

/-- The body reads all of `main_v12` through window 5. -/
theorem iblk_5 (t : Fin cfg0.N) : iblk m c 5 t = (V m c main_v12 : Vec Ideal S1x36 .f32) := by
  unfold iblk
  funext y
  rw [View.read_apply]
  exact congrArg (V m c main_v12) (funext fun a => Fin.ext (Pipeline.Window.rect_emb_val_of_index_zero (cfg0.win 5) t a (index_zero 5 t a) y))

/-- The body reads all of `main_v13` through window 6. -/
theorem iblk_6 (t : Fin cfg0.N) : iblk m c 6 t = (V m c main_v13 : Vec Ideal S1x18 .f32) := by
  unfold iblk
  funext y
  rw [View.read_apply]
  exact congrArg (V m c main_v13) (funext fun a => Fin.ext (Pipeline.Window.rect_emb_val_of_index_zero (cfg0.win 6) t a (index_zero 6 t a) y))

/-- The accumulated taps plus the bias over the region's input arrays, at pixel `q` and stacked head `o`. -/
def regionAt (q : Fin 1900) (o : Fin 54) : EReal :=
  accAt (V m c main_v1) (V m c main_v4) (k0_pay10 (V m c main_v7) (V m c main_v10))
      (k0_pay11 (V m c main_v7) (V m c main_v10) (V m c main_v12) (V m c main_v13) (V m c main_v11)) q o

/-- What output window 7's array ends holding: row `q`, column `o` the accumulated taps at stacked head `0 + o`. -/
def regionA : Vec Ideal S1900x36 .f32 := fun j => regionAt m c (j 0) ⟨0 + (j 1).val, by have := (j 1).isLt; change _ < 36 at this; omega⟩

/-- What the body leaves in window 7's block is that array. -/
theorem outs_7 (t : Fin cfg0.N) (y : S1900x36.Idx) : (outsAt0 m c t).1 y = regionA m c y := by
  unfold outsAt0
  rw [iblk_0, iblk_1, iblk_2, iblk_3, iblk_4, iblk_5, iblk_6]
  idx_vars y
  exact out7_apply _ _ _ _ _ _ _ _ _ _ _ _ _ _ _ _ _ _ _ _ _ _ _ _ _ _ _ _ _ _

/-- Output window 7's array after the region. -/
theorem arr_7 : (dats m 0 c).arrAt 7 cfg0.N = regionA m c := by
  refine (dats m 0 c).arrAt_eq_of_covers 7 _ (by decide +kernel) fun t hf y => ?_
  rw [after0_7]
  have he : ((cfg0.win 7).blk t).view.emb y = y :=
    funext fun a => Fin.ext (Pipeline.Window.rect_emb_val_of_index_zero (cfg0.win 7) t a (index_zero 7 t a) y)
  exact (outs_7 m c t y).trans (congrArg (regionA m c) he).symm

/-- What output window 8's array ends holding: row `q`, column `o` the accumulated taps at stacked head `36 + o`. -/
def regionB : Vec Ideal S1900x18 .f32 := fun j => regionAt m c (j 0) ⟨36 + (j 1).val, by have := (j 1).isLt; change _ < 18 at this; omega⟩

/-- What the body leaves in window 8's block is that array. -/
theorem outs_8 (t : Fin cfg0.N) (y : S1900x18.Idx) : (outsAt0 m c t).2 y = regionB m c y := by
  unfold outsAt0
  rw [iblk_0, iblk_1, iblk_2, iblk_3, iblk_4, iblk_5, iblk_6]
  idx_vars y
  exact out8_apply _ _ _ _ _ _ _ _ _ _ _ _ _ _ _ _ _ _ _ _ _ _ _ _ _ _ _ _ _ _

/-- Output window 8's array after the region. -/
theorem arr_8 : (dats m 0 c).arrAt 8 cfg0.N = regionB m c := by
  refine (dats m 0 c).arrAt_eq_of_covers 8 _ (by decide +kernel) fun t hf y => ?_
  rw [after0_8]
  have he : ((cfg0.win 8).blk t).view.emb y = y :=
    funext fun a => Fin.ext (Pipeline.Window.rect_emb_val_of_index_zero (cfg0.win 8) t a (index_zero 8 t a) y)
  exact (outs_8 m c t y).trans (congrArg (regionB m c) he).symm

/-- The result `main_v17` after the whole program, at one entry: the region's output array at pixel `38·a + b`. -/
theorem tail_v17 (o : Fin 36) (a : Fin 50) (b : Fin 38) :
    (Pipeline.afterTail₀ cfgs (dats m) 0 (V0 m) [hostOps1] c main_v17 : Vec Ideal S1x36x50x38 .f32) (ix4 0 o a b)
      = regionA m c (ix2 ⟨a.val * 38 + b.val, by omega⟩ o) := by
  unfold Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v14_0)
      = regionA m c :=
    (Pipeline.withArrays_arr (cfgs 0).spec (by decide) c (V0 m c) _ 7).trans (arr_7 m c)
  rw [h]
  generalize regionA m c = x
  pointwise

/-- The result `main_v20` after the whole program, at one entry: the region's output array at pixel `38·a + b`. -/
theorem tail_v20 (o : Fin 18) (a : Fin 50) (b : Fin 38) :
    (Pipeline.afterTail₀ cfgs (dats m) 0 (V0 m) [hostOps1] c main_v20 : Vec Ideal S1x18x50x38 .f32) (ix4 0 o a b)
      = regionB m c (ix2 ⟨a.val * 38 + b.val, by omega⟩ o) := by
  unfold Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v14_1)
      = regionB m c :=
    (Pipeline.withArrays_arr (cfgs 0).spec (by decide) c (V0 m c) _ 8).trans (arr_8 m c)
  rw [h]
  generalize regionB m c = x
  pointwise

end Cert.KernelIdeal.Value

end
-- ==== Proof.Reference.lean ====
/- What the reference returns, read at one entry: for every output channel and image point, the head's weights
   against the nine taps of the 3×3 convolution over the zero-padded image plus the convolution's bias, plus the head's bias. -/
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The input image with one ring of zeros around it, as the reference computes it. -/
def padded (x : FVec Ideal S1x512x50x38 .f32) : FVec Ideal S512x52x40 .f32 :=
  pad S512x52x40 ![0, 1, 1] ![0, 1, 1] ![0, 0, 0] (shapeCast _ x shapeCasts_S1x512x50x38_S512x50x38)
    (sitofp .f32 (constantI S_ 32 0#32)) pads_S512x50x38_S512x52x40_000_110_110 h_S_

/-- Channel `c` of the image at the padded point `(y, l)`: the image one step up and left of it, zero on the ring. -/
def padAt (x : FVec Ideal S1x512x50x38 .f32) (c : Fin 512) (y l : ℕ) : EReal :=
  if h : (1 ≤ y ∧ y - 1 < 50) ∧ 1 ≤ l ∧ l - 1 < 38 then x (ix4 0 c ⟨y - 1, h.1.2⟩ ⟨l - 1, h.2.2⟩) else 0

/-- The padded image at a point is `padAt`. -/
theorem padded_apply (x : FVec Ideal S1x512x50x38 .f32) (c : Fin 512) (y : Fin 52) (l : Fin 40) :
    padded x (ix3 c y l) = padAt x c y.val l.val := by
  unfold padded padAt
  pointwise
  simp [FloatOps.sitofp]

/-- One tap of the convolution: one 512×512 slice of the weights, its offsets `a`, against the padded image shifted by `d`. -/
def tapProd (P : FVec Ideal S512x52x40 .f32) (w : FVec Ideal S512x512x3x3 .f32) (a : Fin 4 → ℕ)
    (ha : S512x512x3x3.Slices a S512x512x1x1) (d : Fin 3 → ℕ) (hd : S512x52x40.Slices d S512x50x38) :
    FVec Ideal S512x50x38 .f32 :=
  Host.dotGeneral dot_S512x512_S512x50x38_S512x50x38_1_0_0_12_n_n none
    (shapeCast _ (extractStridedSlice S512x512x1x1 a w ha) shapeCasts_S512x512x1x1_S512x512)
    (extractStridedSlice S512x50x38 d P hd)

/-- The tap at kernel row `i` and column `j`, at an output channel and an image point: the sum over the input channels. -/
theorem tapProd_apply (P : FVec Ideal S512x52x40 .f32) (w : FVec Ideal S512x512x3x3 .f32) (i j : Fin 3)
    (ha : S512x512x3x3.Slices ![0, 0, i.val, j.val] S512x512x1x1) (hd : S512x52x40.Slices ![0, i.val, j.val] S512x50x38)
    (m : Fin 512) (y : Fin 50) (l : Fin 38) :
    tapProd P w ![0, 0, i.val, j.val] ha ![0, i.val, j.val] hd (ix3 m y l)
      = ∑ c : Fin 512, (w (ix4 m c i j) : EReal)
          * P (ix3 c ⟨y.val + i.val, by omega⟩ ⟨l.val + j.val, by omega⟩) := by
  unfold tapProd
  pointwise
  simp only [Nat.add_comm i.val, Nat.add_comm j.val]

/-- The whole convolution of the padded image, with its bias. -/
def conv (P : FVec Ideal S512x52x40 .f32) (w : FVec Ideal S512x512x3x3 .f32) (b : FVec Ideal S512 .f32) :
    FVec Ideal S512x50x38 .f32 :=
  addf (addf (addf (addf (addf (addf (addf (addf (addf (addf (broadcastInDim S512x50x38 ![] bcast_S_S512x50x38 (constant S_ .f32 0x00000000#32))
    (tapProd P w ![0, 0, 0, 0] slices_S512x512x3x3_S512x512x1x1_0_0_0_0 ![0, 0, 0] slices_S512x52x40_S512x50x38_0_0_0))
    (tapProd P w ![0, 0, 0, 1] slices_S512x512x3x3_S512x512x1x1_0_0_0_1 ![0, 0, 1] slices_S512x52x40_S512x50x38_0_0_1))
    (tapProd P w ![0, 0, 0, 2] slices_S512x512x3x3_S512x512x1x1_0_0_0_2 ![0, 0, 2] slices_S512x52x40_S512x50x38_0_0_2))
    (tapProd P w ![0, 0, 1, 0] slices_S512x512x3x3_S512x512x1x1_0_0_1_0 ![0, 1, 0] slices_S512x52x40_S512x50x38_0_1_0))
    (tapProd P w ![0, 0, 1, 1] slices_S512x512x3x3_S512x512x1x1_0_0_1_1 ![0, 1, 1] slices_S512x52x40_S512x50x38_0_1_1))
    (tapProd P w ![0, 0, 1, 2] slices_S512x512x3x3_S512x512x1x1_0_0_1_2 ![0, 1, 2] slices_S512x52x40_S512x50x38_0_1_2))
    (tapProd P w ![0, 0, 2, 0] slices_S512x512x3x3_S512x512x1x1_0_0_2_0 ![0, 2, 0] slices_S512x52x40_S512x50x38_0_2_0))
    (tapProd P w ![0, 0, 2, 1] slices_S512x512x3x3_S512x512x1x1_0_0_2_1 ![0, 2, 1] slices_S512x52x40_S512x50x38_0_2_1))
    (tapProd P w ![0, 0, 2, 2] slices_S512x512x3x3_S512x512x1x1_0_0_2_2 ![0, 2, 2] slices_S512x52x40_S512x50x38_0_2_2))
    (broadcastInDim S512x50x38 ![0, 1, 2] bcast_S512x1x1_S512x50x38_0_1_2 (broadcastInDim S512x1x1 ![0] bcast_S512_S512x1x1_0 b))

/-- The convolution before the bias, tap by tap: tap `t` at output channel `m` and image point `(y, l)`. -/
def convTap (x : FVec Ideal S1x512x50x38 .f32) (w : FVec Ideal S512x512x3x3 .f32) (y : Fin 50) (l : Fin 38) (t : Fin 9)
    (m : Fin 512) : EReal :=
  ∑ c : Fin 512, (w (ix4 m c ⟨t.val / 3, by omega⟩ ⟨t.val % 3, by omega⟩) : EReal)
    * padAt x c (y.val + t.val / 3) (l.val + t.val % 3)

/-- A tap of the padded image is `convTap`. -/
theorem tap_padded (x : FVec Ideal S1x512x50x38 .f32) (w : FVec Ideal S512x512x3x3 .f32) (i j : Fin 3) (t : Fin 9)
    (hi : i = ⟨t.val / 3, by omega⟩) (hj : j = ⟨t.val % 3, by omega⟩)
    (ha : S512x512x3x3.Slices ![0, 0, i.val, j.val] S512x512x1x1) (hd : S512x52x40.Slices ![0, i.val, j.val] S512x50x38)
    (m : Fin 512) (y : Fin 50) (l : Fin 38) :
    tapProd (padded x) w ![0, 0, i.val, j.val] ha ![0, i.val, j.val] hd (ix3 m y l) = convTap x w y l t m := by
  rw [tapProd_apply]
  subst hi hj
  unfold convTap
  exact Finset.sum_congr rfl fun c _ => by rw [padded_apply]

/-- The convolution at an output channel and an image point: nine taps added up from zero, then the bias. -/
theorem conv_apply (x : FVec Ideal S1x512x50x38 .f32) (w : FVec Ideal S512x512x3x3 .f32) (b : FVec Ideal S512 .f32)
    (m : Fin 512) (y : Fin 50) (l : Fin 38) :
    conv (padded x) w b (ix3 m y l)
      = (0 + convTap x w y l 0 m + convTap x w y l 1 m + convTap x w y l 2 m + convTap x w y l 3 m + convTap x w y l 4 m
          + convTap x w y l 5 m + convTap x w y l 6 m + convTap x w y l 7 m + convTap x w y l 8 m) + b (ix1 m) := by
  have h0 : tapProd (padded x) w ![0, 0, 0, 0] slices_S512x512x3x3_S512x512x1x1_0_0_0_0 ![0, 0, 0] slices_S512x52x40_S512x50x38_0_0_0
      (ix3 m y l) = convTap x w y l 0 m := tap_padded x w 0 0 0 rfl rfl _ _ m y l
  have h1 : tapProd (padded x) w ![0, 0, 0, 1] slices_S512x512x3x3_S512x512x1x1_0_0_0_1 ![0, 0, 1] slices_S512x52x40_S512x50x38_0_0_1
      (ix3 m y l) = convTap x w y l 1 m := tap_padded x w 0 1 1 rfl rfl _ _ m y l
  have h2 : tapProd (padded x) w ![0, 0, 0, 2] slices_S512x512x3x3_S512x512x1x1_0_0_0_2 ![0, 0, 2] slices_S512x52x40_S512x50x38_0_0_2
      (ix3 m y l) = convTap x w y l 2 m := tap_padded x w 0 2 2 rfl rfl _ _ m y l
  have h3 : tapProd (padded x) w ![0, 0, 1, 0] slices_S512x512x3x3_S512x512x1x1_0_0_1_0 ![0, 1, 0] slices_S512x52x40_S512x50x38_0_1_0
      (ix3 m y l) = convTap x w y l 3 m := tap_padded x w 1 0 3 rfl rfl _ _ m y l
  have h4 : tapProd (padded x) w ![0, 0, 1, 1] slices_S512x512x3x3_S512x512x1x1_0_0_1_1 ![0, 1, 1] slices_S512x52x40_S512x50x38_0_1_1
      (ix3 m y l) = convTap x w y l 4 m := tap_padded x w 1 1 4 rfl rfl _ _ m y l
  have h5 : tapProd (padded x) w ![0, 0, 1, 2] slices_S512x512x3x3_S512x512x1x1_0_0_1_2 ![0, 1, 2] slices_S512x52x40_S512x50x38_0_1_2
      (ix3 m y l) = convTap x w y l 5 m := tap_padded x w 1 2 5 rfl rfl _ _ m y l
  have h6 : tapProd (padded x) w ![0, 0, 2, 0] slices_S512x512x3x3_S512x512x1x1_0_0_2_0 ![0, 2, 0] slices_S512x52x40_S512x50x38_0_2_0
      (ix3 m y l) = convTap x w y l 6 m := tap_padded x w 2 0 6 rfl rfl _ _ m y l
  have h7 : tapProd (padded x) w ![0, 0, 2, 1] slices_S512x512x3x3_S512x512x1x1_0_0_2_1 ![0, 2, 1] slices_S512x52x40_S512x50x38_0_2_1
      (ix3 m y l) = convTap x w y l 7 m := tap_padded x w 2 1 7 rfl rfl _ _ m y l
  have h8 : tapProd (padded x) w ![0, 0, 2, 2] slices_S512x512x3x3_S512x512x1x1_0_0_2_2 ![0, 2, 2] slices_S512x52x40_S512x50x38_0_2_2
      (ix3 m y l) = convTap x w y l 8 m := tap_padded x w 2 2 8 rfl rfl _ _ m y l
  unfold conv
  generalize padded x = P at *
  generalize tapProd P w ![0, 0, 0, 0] slices_S512x512x3x3_S512x512x1x1_0_0_0_0 ![0, 0, 0] slices_S512x52x40_S512x50x38_0_0_0 = T0 at *
  generalize tapProd P w ![0, 0, 0, 1] slices_S512x512x3x3_S512x512x1x1_0_0_0_1 ![0, 0, 1] slices_S512x52x40_S512x50x38_0_0_1 = T1 at *
  generalize tapProd P w ![0, 0, 0, 2] slices_S512x512x3x3_S512x512x1x1_0_0_0_2 ![0, 0, 2] slices_S512x52x40_S512x50x38_0_0_2 = T2 at *
  generalize tapProd P w ![0, 0, 1, 0] slices_S512x512x3x3_S512x512x1x1_0_0_1_0 ![0, 1, 0] slices_S512x52x40_S512x50x38_0_1_0 = T3 at *
  generalize tapProd P w ![0, 0, 1, 1] slices_S512x512x3x3_S512x512x1x1_0_0_1_1 ![0, 1, 1] slices_S512x52x40_S512x50x38_0_1_1 = T4 at *
  generalize tapProd P w ![0, 0, 1, 2] slices_S512x512x3x3_S512x512x1x1_0_0_1_2 ![0, 1, 2] slices_S512x52x40_S512x50x38_0_1_2 = T5 at *
  generalize tapProd P w ![0, 0, 2, 0] slices_S512x512x3x3_S512x512x1x1_0_0_2_0 ![0, 2, 0] slices_S512x52x40_S512x50x38_0_2_0 = T6 at *
  generalize tapProd P w ![0, 0, 2, 1] slices_S512x512x3x3_S512x512x1x1_0_0_2_1 ![0, 2, 1] slices_S512x52x40_S512x50x38_0_2_1 = T7 at *
  generalize tapProd P w ![0, 0, 2, 2] slices_S512x512x3x3_S512x512x1x1_0_0_2_2 ![0, 2, 2] slices_S512x52x40_S512x50x38_0_2_2 = T8 at *
  pointwise
  simp only [h0, h1, h2, h3, h4, h5, h6, h7, h8]

/-- The first head over a feature map `C`: a 36×512 product at every image point, plus its bias. -/
def headA (lw : FVec Ideal S36x512x1x1 .f32) (lb : FVec Ideal S36 .f32) (C : FVec Ideal S512x50x38 .f32) :
    FVec Ideal S1x36x50x38 .f32 :=
  broadcastInDim S1x36x50x38 ![1, 2, 3] bcast_S36x50x38_S1x36x50x38_1_2_3
    (addf (Host.dotGeneral dot_S36x512_S512x50x38_S36x50x38_1_0_0_12_n_n none (shapeCast _ lw shapeCasts_S36x512x1x1_S36x512) C)
      (broadcastInDim S36x50x38 ![0, 1, 2] bcast_S36x1x1_S36x50x38_0_1_2 (broadcastInDim S36x1x1 ![0] bcast_S36_S36x1x1_0 lb)))

/-- The first head at one entry. -/
theorem headA_apply (lw : FVec Ideal S36x512x1x1 .f32) (lb : FVec Ideal S36 .f32) (C : FVec Ideal S512x50x38 .f32)
    (o : Fin 36) (y : Fin 50) (l : Fin 38) :
    headA lw lb C (ix4 0 o y l)
      = (∑ m : Fin 512, (lw (ix4 o m 0 0) : EReal) * C (ix3 m y l)) + lb (ix1 o) := by
  unfold headA
  pointwise

/-- The second head over a feature map `C`: an 18×512 product at every image point, plus its bias. -/
def headB (lw : FVec Ideal S18x512x1x1 .f32) (lb : FVec Ideal S18 .f32) (C : FVec Ideal S512x50x38 .f32) :
    FVec Ideal S1x18x50x38 .f32 :=
  broadcastInDim S1x18x50x38 ![1, 2, 3] bcast_S18x50x38_S1x18x50x38_1_2_3
    (addf (Host.dotGeneral dot_S18x512_S512x50x38_S18x50x38_1_0_0_12_n_n none (shapeCast _ lw shapeCasts_S18x512x1x1_S18x512) C)
      (broadcastInDim S18x50x38 ![0, 1, 2] bcast_S18x1x1_S18x50x38_0_1_2 (broadcastInDim S18x1x1 ![0] bcast_S18_S18x1x1_0 lb)))

/-- The second head at one entry. -/
theorem headB_apply (lw : FVec Ideal S18x512x1x1 .f32) (lb : FVec Ideal S18 .f32) (C : FVec Ideal S512x50x38 .f32)
    (o : Fin 18) (y : Fin 50) (l : Fin 38) :
    headB lw lb C (ix4 0 o y l)
      = (∑ m : Fin 512, (lw (ix4 o m 0 0) : EReal) * C (ix3 m y l)) + lb (ix1 o) := by
  unfold headB
  pointwise

/-- The reference's first result is the first head over the convolution of the padded image. -/
theorem res61_eq (m : (ℓ : Loc nD τ sig) → Buf (Elt Ideal) ℓ) (c : Dev nD) :
    res_main_v61 m c = headA (m ((c.tc : Thread nD τ).loc main_arg3)) (m ((c.tc : Thread nD τ).loc main_arg4))
      (conv (padded (m ((c.tc : Thread nD τ).loc main_arg0))) (m ((c.tc : Thread nD τ).loc main_arg1))
        (m ((c.tc : Thread nD τ).loc main_arg2))) := rfl

/-- The reference's second result is the second head over the same convolution. -/
theorem res62_eq (m : (ℓ : Loc nD τ sig) → Buf (Elt Ideal) ℓ) (c : Dev nD) :
    res_main_v62 m c = headB (m ((c.tc : Thread nD τ).loc main_arg5)) (m ((c.tc : Thread nD τ).loc main_arg6))
      (conv (padded (m ((c.tc : Thread nD τ).loc main_arg0))) (m ((c.tc : Thread nD τ).loc main_arg1))
        (m ((c.tc : Thread nD τ).loc main_arg2))) := rfl

end Cert.ReferenceIdeal.Value

end
-- ==== Proof.Equate.lean ====
/- The kernel's accumulated taps are the reference's heads over the convolution: first each masked tap against the
   zero-padded image, then the whole sum, for arguments with real entries. -/
module

public import proofs.«01_k».proof.Proof.Algebra
public import proofs.«01_k».proof.Proof.Region
public import proofs.«01_k».proof.Proof.Reference

@[expose] public section

set_option maxRecDepth 16384

noncomputable section

namespace Cert.KernelIdeal.Value

open Cert.KernelIdeal Cert.KernelIdeal.Gen Idealize.ShloMosaic Idealize.ShloMosaic.TcCoe Idealize.SL.Sem
open Cert.ReferenceIdeal.Value (padAt convTap)
open scoped BigOperators

variable (m : (ℓ : Loc nD τ sig) → Buf (Elt Ideal) ℓ) (c : Dev nD)

/-- The image argument. -/
def image : FVec Ideal S1x512x50x38 .f32 := m ((c.tc : Thread nD τ).loc main_arg0)
/-- The convolution's weights. -/
def weight : FVec Ideal S512x512x3x3 .f32 := m ((c.tc : Thread nD τ).loc main_arg1)
/-- The convolution's bias. -/
def convBias : FVec Ideal S512 .f32 := m ((c.tc : Thread nD τ).loc main_arg2)
/-- The two heads' weights stacked, as the kernel stacks them. -/
def heads : FVec Ideal S54x512 .bf16 := k0_pay10 (V m c main_v7) (V m c main_v10)

/-- The scratch's row of the padded point `(y, l)`, where its column is not on the left or right edge, for any image block
    `x0` laid out row by row from an image `X`. -/
theorem stage_of (x0 : FVec Ideal S7600x128 .f32) (X : FVec Ideal S1x512x50x38 .f32)
    (hx : ∀ (r : Fin 7600) (l : Fin 128), x0 (ix2 r l) = X (ix4 0 ⟨r.val % 4 * 128 + l.val, by omega⟩ ⟨r.val / 152, by omega⟩ ⟨r.val / 4 % 38, by omega⟩))
    (y l : ℕ) (hl : 1 ≤ l ∧ l - 1 < 38) (r : Fin 2048) (hr : r.val = 38 * y + l + 25) (i : Fin 512) :
    stage x0 (ix2 r i) = padAt X i y l := by
  unfold padAt
  have hi := i.isLt
  by_cases hy : 1 ≤ y ∧ y - 1 < 50
  · have h : 64 ≤ r.val ∧ r.val < 1964 := by omega
    rw [dif_pos ⟨hy, hl⟩, stage_in x0 (ix2 r i) h (ix2 ⟨4 * (r.val - 64) + i.val / 128, by omega⟩ ⟨i.val % 128, by omega⟩) rfl rfl, hx]
    have e1 : (4 * (r.val - 64) + i.val / 128) % 4 * 128 + i.val % 128 = i.val := by omega
    have e2 : (4 * (r.val - 64) + i.val / 128) / 152 = y - 1 := by omega
    have e3 : (4 * (r.val - 64) + i.val / 128) / 4 % 38 = l - 1 := by omega
    simp only [e1, e2, e3]
  · have h : ¬(64 ≤ r.val ∧ r.val < 1964) := by omega
    rw [dif_neg (fun k => hy k.1), stage_out x0 (ix2 r i) h]

/-- The same of the kernel's image block. -/
theorem stage_padAt (y l : ℕ) (hl : 1 ≤ l ∧ l - 1 < 38) (r : Fin 2048) (hr : r.val = 38 * y + l + 25) (i : Fin 512) :
    stage (V m c main_v1) (ix2 r i) = padAt (image m c) i y l :=
  stage_of (V m c main_v1) (image m c) (V_v1_apply m c) y l hl r hr i

/-- A masked tap of the kernel at the padded point `(y, l)`: tap `t`'s weights with the head multiplied in, against the padded image. -/
theorem tap_padAt (H : FVec Ideal S54x512 .bf16) (t : Fin 9) (y l : ℕ) (r : Fin 2048) (hr : r.val = 38 * y + l + 25) (o : Fin 54)
    (k : EReal) (hk : k = if 1 ≤ l ∧ l - 1 < 38 then 1 else 0) :
    tap (V m c main_v1) (V m c main_v4) H t r o * k
      = ∑ i : Fin 512, padAt (image m c) i y l
          * ∑ j : Fin 512, H (ix2 o j) * weight m c (ix4 j i ⟨t.val / 3, by omega⟩ ⟨t.val % 3, by omega⟩) := by
  subst hk
  by_cases hl : 1 ≤ l ∧ l - 1 < 38
  · rw [if_pos hl, mul_one]
    unfold tap
    refine Finset.sum_congr rfl fun i _ => ?_
    rw [stage_padAt m c y l hl r hr]
    refine congrArg _ (Finset.sum_congr rfl fun j _ => ?_)
    rw [V_v4_apply]
    rfl
  · rw [if_neg hl, mul_zero]
    refine (Finset.sum_eq_zero fun i _ => ?_).symm
    unfold padAt
    rw [dif_neg (fun h => hl h.2), zero_mul]

/-- Tap `t` at image point `(a, b)` and stacked head `o`, over the padded image. -/
def headTap (a b : ℕ) (o : Fin 54) (t : Fin 9) : EReal :=
  ∑ i : Fin 512, padAt (image m c) i (a + t.val / 3) (b + t.val % 3)
    * ∑ j : Fin 512, heads m c (ix2 o j) * weight m c (ix4 j i ⟨t.val / 3, by omega⟩ ⟨t.val % 3, by omega⟩)

/-- The region's accumulated taps at image point `(a, b)`: the nine taps over the padded image, plus the kernel's bias row. -/
theorem regionAt_eq (a : Fin 50) (b : Fin 38) (o : Fin 54) :
    regionAt m c ⟨a.val * 38 + b.val, by omega⟩ o
      = (0 + headTap m c a b o 0 + headTap m c a b o 1 + headTap m c a b o 2 + headTap m c a b o 3 + headTap m c a b o 4
          + headTap m c a b o 5 + headTap m c a b o 6 + headTap m c a b o 7 + headTap m c a b o 8)
        + k0_pay11 (V m c main_v7) (V m c main_v10) (V m c main_v12) (V m c main_v13) (V m c main_v11) (ix2 0 o) := by
  have key (t : Fin 9) (r : Fin 2048) (hr : r.val = 38 * (a.val + t.val / 3) + (b.val + t.val % 3) + 25) (k : EReal)
      (hk : k = if 1 ≤ b.val + t.val % 3 ∧ b.val + t.val % 3 - 1 < 38 then 1 else 0) :
      tap (V m c main_v1) (V m c main_v4) (heads m c) t r o * k = headTap m c a b o t :=
    tap_padAt m c (heads m c) t _ _ r hr o k hk
  have hb := b.isLt
  have mid (t : Fin 9) (r : Fin 2048) (hr : r.val = 38 * (a.val + t.val / 3) + (b.val + t.val % 3) + 25) (ht : t.val % 3 = 1) :
      tap (V m c main_v1) (V m c main_v4) (heads m c) t r o = headTap m c a b o t :=
    (mul_one _).symm.trans (key t r hr 1 (by rw [if_pos (by omega)]))
  have hL : maskL ⟨a.val * 38 + b.val, by omega⟩ = if 1 ≤ b.val + 0 ∧ b.val + 0 - 1 < 38 then 1 else 0 := by
    unfold maskL; exact if_congr (by show 1 ≤ (a.val * 38 + b.val) % 38 ↔ _; omega) rfl rfl
  have hR : maskR ⟨a.val * 38 + b.val, by omega⟩ = if 1 ≤ b.val + 2 ∧ b.val + 2 - 1 < 38 then 1 else 0 := by
    unfold maskR; exact if_congr (by show (a.val * 38 + b.val) % 38 + 2 ≤ 38 ↔ _; omega) rfl rfl
  unfold regionAt accAt
  change (0 + tap _ _ (heads m c) 0 _ o * _ + tap _ _ (heads m c) 1 _ o + tap _ _ (heads m c) 2 _ o * _ + tap _ _ (heads m c) 3 _ o * _
    + tap _ _ (heads m c) 4 _ o + tap _ _ (heads m c) 5 _ o * _ + tap _ _ (heads m c) 6 _ o * _ + tap _ _ (heads m c) 7 _ o
    + tap _ _ (heads m c) 8 _ o * _) + _ = _
  rw [key 0 _ (by show 25 + (a.val * 38 + b.val) = 38 * (a.val + 0) + (b.val + 0) + 25; omega) _ hL,
    mid 1 _ (by show 26 + (a.val * 38 + b.val) = 38 * (a.val + 0) + (b.val + 1) + 25; omega) rfl,
    key 2 _ (by show 27 + (a.val * 38 + b.val) = 38 * (a.val + 0) + (b.val + 2) + 25; omega) _ hR,
    key 3 _ (by show 63 + (a.val * 38 + b.val) = 38 * (a.val + 1) + (b.val + 0) + 25; omega) _ hL,
    mid 4 _ (by show 64 + (a.val * 38 + b.val) = 38 * (a.val + 1) + (b.val + 1) + 25; omega) rfl,
    key 5 _ (by show 65 + (a.val * 38 + b.val) = 38 * (a.val + 1) + (b.val + 2) + 25; omega) _ hR,
    key 6 _ (by show 101 + (a.val * 38 + b.val) = 38 * (a.val + 2) + (b.val + 0) + 25; omega) _ hL,
    mid 7 _ (by show 102 + (a.val * 38 + b.val) = 38 * (a.val + 2) + (b.val + 1) + 25; omega) rfl,
    key 8 _ (by show 103 + (a.val * 38 + b.val) = 38 * (a.val + 2) + (b.val + 2) + 25; omega) _ hR]

/-- With real entries in the image, the weights and the stacked heads' row `o`, the kernel's value at image point `(a, b)` is
    the head over the convolution, whatever the biases. -/
theorem regionAt_heads (X : S1x512x50x38.Idx → ℝ) (hX : ∀ i, image m c i = (X i : EReal))
    (W : S512x512x3x3.Idx → ℝ) (hW : ∀ i, weight m c i = (W i : EReal)) (o : Fin 54) (h : Fin 512 → ℝ)
    (hh : ∀ j, heads m c (ix2 o j) = (h j : EReal)) (a : Fin 50) (b : Fin 38) :
    regionAt m c ⟨a.val * 38 + b.val, by omega⟩ o
      = (∑ j : Fin 512, heads m c (ix2 o j)
          * ((0 + convTap (image m c) (weight m c) a b 0 j + convTap (image m c) (weight m c) a b 1 j
              + convTap (image m c) (weight m c) a b 2 j + convTap (image m c) (weight m c) a b 3 j
              + convTap (image m c) (weight m c) a b 4 j + convTap (image m c) (weight m c) a b 5 j
              + convTap (image m c) (weight m c) a b 6 j + convTap (image m c) (weight m c) a b 7 j
              + convTap (image m c) (weight m c) a b 8 j) + convBias m c (ix1 j)))
        + (if h : o.val < 36 then (m ((c.tc : Thread nD τ).loc main_arg4) : FVec Ideal S36 .f32) (ix1 ⟨o.val, h⟩)
            else (m ((c.tc : Thread nD τ).loc main_arg6) : FVec Ideal S18 .f32) (ix1 ⟨o.val - 36, by omega⟩)) := by
  have hp (i : Fin 512) (y l : ℕ) : ∃ p : ℝ, padAt (image m c) i y l = (p : EReal) := by
    unfold padAt
    split
    · exact ⟨_, hX _⟩
    · exact ⟨0, rfl⟩
  choose p hp using hp
  rw [regionAt_eq, bias_apply]
  have e : ∀ j, (V m c main_v11 : FVec Ideal S1x512 .f32) (ix2 0 j) = convBias m c (ix1 j) := fun j => V_v11_apply m c j
  have e4 : (if h : o.val < 36 then (V m c main_v12 : FVec Ideal S1x36 .f32) (ix2 0 ⟨o.val, h⟩) else (V m c main_v13 : FVec Ideal S1x18 .f32) (ix2 0 ⟨o.val - 36, by omega⟩))
      = (if h : o.val < 36 then (m ((c.tc : Thread nD τ).loc main_arg4) : FVec Ideal S36 .f32) (ix1 ⟨o.val, h⟩)
            else (m ((c.tc : Thread nD τ).loc main_arg6) : FVec Ideal S18 .f32) (ix1 ⟨o.val - 36, by omega⟩)) := by
    split
    · exact V_v12_apply m c _
    · exact V_v13_apply m c _
  rw [e4]
  have f := Cert.Conv.fold_head h (fun t j i => W (ix4 j i ⟨t.val / 3, by omega⟩ ⟨t.val % 3, by omega⟩))
    (fun t i => p i (a.val + t.val / 3) (b.val + t.val % 3)) (fun j => convBias m c (ix1 j))
    (if h : o.val < 36 then (m ((c.tc : Thread nD τ).loc main_arg4) : FVec Ideal S36 .f32) (ix1 ⟨o.val, h⟩)
            else (m ((c.tc : Thread nD τ).loc main_arg6) : FVec Ideal S18 .f32) (ix1 ⟨o.val - 36, by omega⟩))
    (headTap m c a b o) (fun t => by unfold headTap; simp only [hp, hW, hh])
    (convTap (image m c) (weight m c) a b) (fun t j => by unfold convTap; simp only [hp, hW])
  simp only [← hh] at f
  refine Eq.trans ?_ f
  change _ + ((∑ j : Fin 512, heads m c (ix2 o j) * _) + _) = _
  simp only [e]

end Cert.KernelIdeal.Value

end
-- ==== Proof.Finite.lean ====
/- The precondition read back: where it holds, the image, the convolution's weights and the two heads' weights have real
   entries. -/
module

public import proofs.«01_k».proof.Defs
public import Idealize.ShloMosaic.Lib.ReduceAll
public import Idealize.ShloMosaic.Lib.Pointwise

@[expose] public section

set_option maxRecDepth 16384

noncomputable section

namespace Cert.Pre_finite

open Idealize.ShloMosaic

/-- The side conditions the precondition's operations take. -/
instance facts : Facts where
  bcast_S_S1x512x50x38 := by decide
  reducesTo_S1x512x50x38_S_d0_1_2_3 := by decide
  h_S_ := by decide
  bcast_S_S512x512x3x3 := by decide
  reducesTo_S512x512x3x3_S_d0_1_2_3 := by decide
  bcast_S_S36x512x1x1 := by decide
  reducesTo_S36x512x1x1_S_d0_1_2_3 := by decide
  bcast_S_S18x512x1x1 := by decide
  reducesTo_S18x512x1x1_S_d0_1_2_3 := by decide

/-- The bit pattern the precondition compares with is infinity. -/
theorem ofBits_inf : Ideal.ofBits .f32 0x7F800000#32 = (⊤ : EReal) := by
  simp [Ideal.ofBits, Ideal.ieee]

/-- An extended real whose absolute value is below infinity is a real. -/
theorem real_of_abs (x : EReal) (h : max x (-x) < ⊤) : ∃ r : ℝ, x = (r : EReal) := by
  induction x with
  | bot => simp at h
  | coe r => exact ⟨r, rfl⟩
  | top => simp at h

/-- One array's test: its entries are real where `jnp.all (|x| < inf)` is 1. -/
theorem real_of_all {s : Shape} {axes : List (Fin s.rank)} (x : FVec Ideal s .f32) (hb : S_.BroadcastsInDim s (![] : Fin 0 → Fin s.rank))
    (hr : s.ReducesTo axes S_) (j : S_.Idx)
    (e : Host.reduce IntOp.andi (cmpf .olt (Host.absf x) (broadcastInDim s ![] hb (constant S_ .f32 0x7F800000#32))) (constantI S_ 1 1#1) hr Facts.h_S_ j = 1#1)
    (i : s.Idx) : ∃ r : ℝ, x i = (r : EReal) := by
  have : Subsingleton S_.Idx := ⟨fun a b => funext fun k => k.elim0⟩
  have h := Host.reduce_andi_all _ _ hr Facts.h_S_ j e i
  pointwise at h
  rw [ofBits_inf] at h
  refine real_of_abs (x i) ?_
  by_contra hn
  rw [show decide (FloatOps.absf (F := Ideal) (φ := .f32) (x i) < (⊤ : EReal)) = false from decide_eq_false hn] at h
  exact absurd h (by decide)

/-- The precondition gives real entries in its four arrays. -/
theorem reals (a0 : FVec Ideal S1x512x50x38 .f32) (a1 : FVec Ideal S512x512x3x3 .f32) (a2 : FVec Ideal S512 .f32) (a3 : FVec Ideal S36x512x1x1 .f32)
    (a4 : FVec Ideal S36 .f32) (a5 : FVec Ideal S18x512x1x1 .f32) (a6 : FVec Ideal S18 .f32) (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a3 i = (r : EReal)) ∧ (∀ i, ∃ r : ℝ, a5 i = (r : EReal)) := by
  have e := congrFun h (fun k => k.elim0)
  unfold fn fn_part1 at e
  dsimp only at e
  obtain ⟨e, e5⟩ := IntOp.andi_eq_one.1 e
  obtain ⟨e, e3⟩ := IntOp.andi_eq_one.1 e
  obtain ⟨e0, e1⟩ := IntOp.andi_eq_one.1 e
  exact ⟨real_of_all a0 _ _ _ e0, real_of_all a1 _ _ _ e1, real_of_all a3 _ _ _ e3, real_of_all a5 _ _ _ e5⟩

end Cert.Pre_finite

end
-- ==== Proof.Results.lean ====
/- The kernel's two results are the reference's two heads over its convolution, as whole arrays. -/
module

public import proofs.«01_k».proof.Proof.Equate
public import proofs.«01_k».proof.Proof.Finite

@[expose] public section

set_option maxRecDepth 16384

noncomputable section

namespace Cert.KernelIdeal.Value

open Cert.KernelIdeal Cert.KernelIdeal.Gen Idealize.ShloMosaic Idealize.ShloMosaic.TcCoe Idealize.SL.Sem
open Cert.ReferenceIdeal.Value (padAt convTap padded conv conv_apply headA headA_apply headB headB_apply)
open scoped BigOperators

variable (m : (ℓ : Loc nD τ sig) → Buf (Elt Ideal) ℓ) (c : Dev nD)

/-- The first head's weights. -/
def weightA : FVec Ideal S36x512x1x1 .f32 := m ((c.tc : Thread nD τ).loc main_arg3)
/-- The first head's bias. -/
def biasA : FVec Ideal S36 .f32 := m ((c.tc : Thread nD τ).loc main_arg4)
/-- The second head's weights. -/
def weightB : FVec Ideal S18x512x1x1 .f32 := m ((c.tc : Thread nD τ).loc main_arg5)
/-- The second head's bias. -/
def biasB : FVec Ideal S18 .f32 := m ((c.tc : Thread nD τ).loc main_arg6)

/-- The first 36 stacked heads are the first head's rows. -/
theorem heads_A (o : Fin 36) (j : Fin 512) : heads m c (ix2 ⟨0 + o.val, by omega⟩ j) = weightA m c (ix4 o j 0 0) := by
  have ho : 0 + o.val < 36 := by omega
  unfold heads
  rw [head_apply, dif_pos ho]
  simp only [Nat.zero_add]
  exact V_v7_apply m c o j

/-- The last 18 stacked heads are the second head's rows. -/
theorem heads_B (o : Fin 18) (j : Fin 512) : heads m c (ix2 ⟨36 + o.val, by omega⟩ j) = weightB m c (ix4 o j 0 0) := by
  have ho : ¬(36 + o.val < 36) := by omega
  unfold heads
  rw [head_apply, dif_neg ho]
  simp only [Nat.add_sub_cancel_left]
  exact V_v10_apply m c o j

variable (X : S1x512x50x38.Idx → ℝ) (hX : ∀ i, image m c i = (X i : EReal))
  (W : S512x512x3x3.Idx → ℝ) (hW : ∀ i, weight m c i = (W i : EReal))
include hX hW

/-- The first result: with real image, weights and head weights, the kernel returns the reference's first head. -/
theorem result_A (L : S36x512x1x1.Idx → ℝ) (hL : ∀ i, weightA m c i = (L i : EReal)) :
    (Pipeline.afterTail₀ cfgs (dats m) 0 (V0 m) [hostOps1] c main_v17 : Vec Ideal S1x36x50x38 .f32)
      = headA (weightA m c) (biasA m c) (conv (padded (image m c)) (weight m c) (convBias m c)) := by
  funext i
  idx_vars i
  obtain rfl : i0 = 0 := Subsingleton.elim _ _
  rw [tail_v17, headA_apply]
  have e := regionAt_heads m c X hX W hW ⟨0 + i1.val, by omega⟩ (fun j => L (ix4 i1 j 0 0)) (fun j => (heads_A m c i1 j).trans (hL _)) i2 i3
  have ho : 0 + i1.val < 36 := by omega
  rw [dif_pos ho] at e
  simp only [Nat.zero_add] at e
  refine Eq.trans (show regionA m c (ix2 ⟨i2.val * 38 + i3.val, by omega⟩ i1) = regionAt m c ⟨i2.val * 38 + i3.val, by omega⟩ ⟨0 + i1.val, by omega⟩ from rfl) ?_
  simp only [Nat.zero_add]
  refine e.trans ?_
  refine congrArg (· + biasA m c (ix1 i1)) (Finset.sum_congr rfl fun j _ => ?_)
  have h := heads_A m c i1 j
  simp only [Nat.zero_add] at h
  rw [h, conv_apply]

/-- The second result: with real image, weights and head weights, the kernel returns the reference's second head. -/
theorem result_B (L : S18x512x1x1.Idx → ℝ) (hL : ∀ i, weightB m c i = (L i : EReal)) :
    (Pipeline.afterTail₀ cfgs (dats m) 0 (V0 m) [hostOps1] c main_v20 : Vec Ideal S1x18x50x38 .f32)
      = headB (weightB m c) (biasB m c) (conv (padded (image m c)) (weight m c) (convBias m c)) := by
  funext i
  idx_vars i
  obtain rfl : i0 = 0 := Subsingleton.elim _ _
  rw [tail_v20, headB_apply]
  have e := regionAt_heads m c X hX W hW ⟨36 + i1.val, by omega⟩ (fun j => L (ix4 i1 j 0 0)) (fun j => (heads_B m c i1 j).trans (hL _)) i2 i3
  have ho : ¬(36 + i1.val < 36) := by omega
  rw [dif_neg ho] at e
  simp only [Nat.add_sub_cancel_left] at e
  refine Eq.trans (show regionB m c (ix2 ⟨i2.val * 38 + i3.val, by omega⟩ i1) = regionAt m c ⟨i2.val * 38 + i3.val, by omega⟩ ⟨36 + i1.val, by omega⟩ from rfl) ?_
  refine e.trans ?_
  refine congrArg (· + biasB m c (ix1 i1)) (Finset.sum_congr rfl fun j _ => ?_)
  rw [heads_B, conv_apply]

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Results
public import Idealize.ShloMosaic.Lib.Claim
public import Idealize.ShloMosaic.Lib.Quiescent
public import Idealize.ShloMosaic.Adequacy
public import Idealize.ShloMosaic.Init

@[expose] public section

noncomputable section

namespace Cert.KernelIdeal.Value

open Cert.KernelIdeal Cert.KernelIdeal.Gen Idealize.ShloMosaic Idealize.ShloMosaic.TcCoe Idealize.SL.Sem

/-- The kernel's run: its two results are what the host code makes of the region's arrays, its arguments end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = Pipeline.afterTail₀ cfgs (dats m) 0 (V0 m) [hostOps1] c main_v17
      ∧ r.2.mem ((c.tc : Thread nD τ).loc main_v20) = Pipeline.afterTail₀ cfgs (dats m) 0 (V0 m) [hostOps1] c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  θ_run_mono (θ_run_and (run_main m ρ) (unchanged m ρ)) fun r h c =>
    ⟨(h.1 c).2 main_v17 (Pipeline.mem_restRefs_of main_v17 (by decide) (by decide)),
      (h.1 c).2 main_v20 (Pipeline.mem_restRefs_of main_v20 (by decide) (by decide)), h.2 c⟩

end Cert.KernelIdeal.Value

namespace Cert.ReferenceIdeal.Value

open Cert.ReferenceIdeal Cert.ReferenceIdeal.Gen Idealize.ShloMosaic Idealize.ShloMosaic.TcCoe Idealize.SL.Sem

/-- The reference runs, keeps its arguments and has no semaphore to leave set. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  θ_run_mono (run m ρ) fun r h => ⟨fun c => (h c).2.2, sem_eq_zero_of_no_sems (by decide) r.2⟩

end Cert.ReferenceIdeal.Value

namespace Cert.Proof

open Idealize.ShloMosaic Idealize.SL.Sem

/-- The kernel's two results are the reference's, from memories that agree on the arguments. -/
theorem algebraic : Cert.algebraic_KernelIdeal_ReferenceIdeal_pre_finite := by
  intro m g m' g' hpre hagree
  refine ⟨fun c => Pipeline.afterTail₀ _ (Cert.KernelIdeal.Gen.dats m) 0 (Cert.KernelIdeal.Gen.V0 m) [Cert.KernelIdeal.Gen.hostOps1] c Cert.KernelIdeal.main_v17,
    fun c => Pipeline.afterTail₀ _ (Cert.KernelIdeal.Gen.dats m) 0 (Cert.KernelIdeal.Gen.V0 m) [Cert.KernelIdeal.Gen.hostOps1] c Cert.KernelIdeal.main_v20,
    Cert.KernelIdeal.Value.run m g, θ_run_mono (Cert.ReferenceIdeal.Value.run m' g') fun r h c => ?_⟩
  obtain ⟨h0, h1, h2, h3, h4, h5, h6⟩ := hagree c
  obtain ⟨hX, hW, hA, hB⟩ := Cert.Pre_finite.reals _ _ _ _ _ _ _ (hpre c)
  choose X hX using hX
  choose W hW using hW
  choose A hA using hA
  choose B hB using hB
  refine ⟨(h c).1.trans ?_, (h c).2.1.trans ?_, (h c).2.2⟩
  · rw [Cert.ReferenceIdeal.Value.res61_eq, h0, h1, h2, h3, h4]
    exact (Cert.KernelIdeal.Value.result_A m c X hX W hW A hA).symm
  · rw [Cert.ReferenceIdeal.Value.res62_eq, h0, h1, h2, h5, h6]
    exact (Cert.KernelIdeal.Value.result_B m c X hX W hW B hB).symm

/-- Every claim of the certificate. -/
theorem claim : Cert.Claim :=
  ⟨Cert.Kernel.Gen.facts, Cert.KernelIdeal.Gen.facts, Cert.ReferenceIdeal.Gen.facts, Cert.Pre_finite.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Value.frame m ρ, fun m ρ _ => Cert.ReferenceIdeal.Value.frame m ρ, trivial, algebraic⟩

end Cert.Proof

end
